-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![1024, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x128 : Shape := ⟨2, ![256, 128]⟩
abbrev S1024x1 : Shape := ⟨2, ![1024, 1]⟩
abbrev S4x256x512 : Shape := ⟨3, ![4, 256, 512]⟩
abbrev S32x512 : Shape := ⟨2, ![32, 512]⟩
abbrev S1024x512 : Shape := ⟨2, ![1024, 512]⟩
abbrev S32x32x512 : Shape := ⟨3, ![32, 32, 512]⟩
abbrev S32 : Shape := ⟨1, ![32]⟩
abbrev S1024 : Shape := ⟨1, ![1024]⟩
abbrev S1024x1024 : Shape := ⟨2, ![1024, 1024]⟩
abbrev S1x1024 : Shape := ⟨2, ![1, 1024]⟩
abbrev S1024x32 : Shape := ⟨2, ![1024, 32]⟩
abbrev S32x256 : Shape := ⟨2, ![32, 256]⟩
abbrev S8x256 : Shape := ⟨2, ![8, 256]⟩
abbrev S1x256x512 : Shape := ⟨3, ![1, 256, 512]⟩
abbrev S256x512 : Shape := ⟨2, ![256, 512]⟩
abbrev S8x512 : Shape := ⟨2, ![8, 512]⟩
abbrev S1x32x512 : Shape := ⟨3, ![1, 32, 512]⟩
abbrev S_ : Shape := ⟨0, ![]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x1, .i32⟩
  | .hbm, ⟨3, _⟩ => ⟨S4x256x512, .f32⟩
  | .hbm, ⟨4, _⟩ => ⟨S32x512, .f32⟩
  | .local _ .vmem, ⟨0, _⟩ => ⟨S1024x256, .f32⟩
  | .local _ .vmem, ⟨1, _⟩ => ⟨S1024x1, .i32⟩
  | .local _ .vmem, ⟨2, _⟩ => ⟨S4x256x512, .f32⟩
  | .local _ .vmem, ⟨3, _⟩ => ⟨S32x512, .f32⟩
  | .local _ .vmem, ⟨4, _⟩ => ⟨S1024x512, .f32⟩
  | .local _ .vmem, ⟨5, _⟩ => ⟨S32x32x512, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_35 : BitVec 32 := 32#32
  let v108 : BitVec 32 := Scalar.muli v2 c32_i32_35
  let v109 : Index := Scalar.indexCast v108
  let c0_36 : Index := 0#32
  ![v109.toNat, 0]
def k0_dev1 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_40 : BitVec 32 := 1#32
  let v115 : BitVec 32 := Scalar.addi v2 c1_i32_40
  let c32_i32_41 : BitVec 32 := 32#32
  let v116 : BitVec 32 := Scalar.remsi v115 c32_i32_41
  let c1_i32_43 : BitVec 32 := 1#32
  let v117 : BitVec 32 := Scalar.muli v116 c1_i32_43
  let v118 : BitVec 32 := Scalar.addi c0_i32_44 v117
  v118.toNat
def k0_dev2 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v119 : BitVec 32 := Scalar.addi v2 c2_i32
  let c32_i32_45 : BitVec 32 := 32#32
  let v120 : BitVec 32 := Scalar.remsi v119 c32_i32_45
  let c1_i32_47 : BitVec 32 := 1#32
  let v121 : BitVec 32 := Scalar.muli v120 c1_i32_47
  let v122 : BitVec 32 := Scalar.addi c0_i32_48 v121
  v122.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v123 : BitVec 32 := Scalar.addi v2 c3_i32
  let c32_i32_49 : BitVec 32 := 32#32
  let v124 : BitVec 32 := Scalar.remsi v123 c32_i32_49
  let c1_i32_51 : BitVec 32 := 1#32
  let v125 : BitVec 32 := Scalar.muli v124 c1_i32_51
  let v126 : BitVec 32 := Scalar.addi c0_i32_52 v125
  v126.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_53 : BitVec 32 := 4#32
  let v127 : BitVec 32 := Scalar.addi v2 c4_i32_53
  let c32_i32_54 : BitVec 32 := 32#32
  let v128 : BitVec 32 := Scalar.remsi v127 c32_i32_54
  let c1_i32_56 : BitVec 32 := 1#32
  let v129 : BitVec 32 := Scalar.muli v128 c1_i32_56
  let v130 : BitVec 32 := Scalar.addi c0_i32_57 v129
  v130.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v131 : BitVec 32 := Scalar.addi v2 c5_i32
  let c32_i32_58 : BitVec 32 := 32#32
  let v132 : BitVec 32 := Scalar.remsi v131 c32_i32_58
  let c1_i32_60 : BitVec 32 := 1#32
  let v133 : BitVec 32 := Scalar.muli v132 c1_i32_60
  let v134 : BitVec 32 := Scalar.addi c0_i32_61 v133
  v134.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v135 : BitVec 32 := Scalar.addi v2 c6_i32
  let c32_i32_62 : BitVec 32 := 32#32
  let v136 : BitVec 32 := Scalar.remsi v135 c32_i32_62
  let c1_i32_64 : BitVec 32 := 1#32
  let v137 : BitVec 32 := Scalar.muli v136 c1_i32_64
  let v138 : BitVec 32 := Scalar.addi c0_i32_65 v137
  v138.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v139 : BitVec 32 := Scalar.addi v2 c7_i32
  let c32_i32_66 : BitVec 32 := 32#32
  let v140 : BitVec 32 := Scalar.remsi v139 c32_i32_66
  let c1_i32_68 : BitVec 32 := 1#32
  let v141 : BitVec 32 := Scalar.muli v140 c1_i32_68
  let v142 : BitVec 32 := Scalar.addi c0_i32_69 v141
  v142.toNat
def k0_dev8 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_70 : BitVec 32 := 8#32
  let v143 : BitVec 32 := Scalar.addi v2 c8_i32_70
  let c32_i32_71 : BitVec 32 := 32#32
  let v144 : BitVec 32 := Scalar.remsi v143 c32_i32_71
  let c1_i32_73 : BitVec 32 := 1#32
  let v145 : BitVec 32 := Scalar.muli v144 c1_i32_73
  let v146 : BitVec 32 := Scalar.addi c0_i32_74 v145
  v146.toNat
def k0_dev9 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v147 : BitVec 32 := Scalar.addi v2 c9_i32
  let c32_i32_75 : BitVec 32 := 32#32
  let v148 : BitVec 32 := Scalar.remsi v147 c32_i32_75
  let c1_i32_77 : BitVec 32 := 1#32
  let v149 : BitVec 32 := Scalar.muli v148 c1_i32_77
  let v150 : BitVec 32 := Scalar.addi c0_i32_78 v149
  v150.toNat
def k0_dev10 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v151 : BitVec 32 := Scalar.addi v2 c10_i32
  let c32_i32_79 : BitVec 32 := 32#32
  let v152 : BitVec 32 := Scalar.remsi v151 c32_i32_79
  let c1_i32_81 : BitVec 32 := 1#32
  let v153 : BitVec 32 := Scalar.muli v152 c1_i32_81
  let v154 : BitVec 32 := Scalar.addi c0_i32_82 v153
  v154.toNat
def k0_dev11 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v155 : BitVec 32 := Scalar.addi v2 c11_i32
  let c32_i32_83 : BitVec 32 := 32#32
  let v156 : BitVec 32 := Scalar.remsi v155 c32_i32_83
  let c1_i32_85 : BitVec 32 := 1#32
  let v157 : BitVec 32 := Scalar.muli v156 c1_i32_85
  let v158 : BitVec 32 := Scalar.addi c0_i32_86 v157
  v158.toNat
def k0_dev12 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v159 : BitVec 32 := Scalar.addi v2 c12_i32
  let c32_i32_87 : BitVec 32 := 32#32
  let v160 : BitVec 32 := Scalar.remsi v159 c32_i32_87
  let c1_i32_89 : BitVec 32 := 1#32
  let v161 : BitVec 32 := Scalar.muli v160 c1_i32_89
  let v162 : BitVec 32 := Scalar.addi c0_i32_90 v161
  v162.toNat
def k0_dev13 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v163 : BitVec 32 := Scalar.addi v2 c13_i32
  let c32_i32_91 : BitVec 32 := 32#32
  let v164 : BitVec 32 := Scalar.remsi v163 c32_i32_91
  let c1_i32_93 : BitVec 32 := 1#32
  let v165 : BitVec 32 := Scalar.muli v164 c1_i32_93
  let v166 : BitVec 32 := Scalar.addi c0_i32_94 v165
  v166.toNat
def k0_dev14 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v167 : BitVec 32 := Scalar.addi v2 c14_i32
  let c32_i32_95 : BitVec 32 := 32#32
  let v168 : BitVec 32 := Scalar.remsi v167 c32_i32_95
  let c1_i32_97 : BitVec 32 := 1#32
  let v169 : BitVec 32 := Scalar.muli v168 c1_i32_97
  let v170 : BitVec 32 := Scalar.addi c0_i32_98 v169
  v170.toNat
def k0_dev15 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v171 : BitVec 32 := Scalar.addi v2 c15_i32
  let c32_i32_99 : BitVec 32 := 32#32
  let v172 : BitVec 32 := Scalar.remsi v171 c32_i32_99
  let c1_i32_101 : BitVec 32 := 1#32
  let v173 : BitVec 32 := Scalar.muli v172 c1_i32_101
  let v174 : BitVec 32 := Scalar.addi c0_i32_102 v173
  v174.toNat
def k0_dev16 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v175 : BitVec 32 := Scalar.addi v2 c16_i32
  let c32_i32_103 : BitVec 32 := 32#32
  let v176 : BitVec 32 := Scalar.remsi v175 c32_i32_103
  let c1_i32_105 : BitVec 32 := 1#32
  let v177 : BitVec 32 := Scalar.muli v176 c1_i32_105
  let v178 : BitVec 32 := Scalar.addi c0_i32_106 v177
  v178.toNat
def k0_dev17 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v179 : BitVec 32 := Scalar.addi v2 c17_i32
  let c32_i32_107 : BitVec 32 := 32#32
  let v180 : BitVec 32 := Scalar.remsi v179 c32_i32_107
  let c1_i32_109 : BitVec 32 := 1#32
  let v181 : BitVec 32 := Scalar.muli v180 c1_i32_109
  let v182 : BitVec 32 := Scalar.addi c0_i32_110 v181
  v182.toNat
def k0_dev18 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v183 : BitVec 32 := Scalar.addi v2 c18_i32
  let c32_i32_111 : BitVec 32 := 32#32
  let v184 : BitVec 32 := Scalar.remsi v183 c32_i32_111
  let c1_i32_113 : BitVec 32 := 1#32
  let v185 : BitVec 32 := Scalar.muli v184 c1_i32_113
  let v186 : BitVec 32 := Scalar.addi c0_i32_114 v185
  v186.toNat
def k0_dev19 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v187 : BitVec 32 := Scalar.addi v2 c19_i32
  let c32_i32_115 : BitVec 32 := 32#32
  let v188 : BitVec 32 := Scalar.remsi v187 c32_i32_115
  let c1_i32_117 : BitVec 32 := 1#32
  let v189 : BitVec 32 := Scalar.muli v188 c1_i32_117
  let v190 : BitVec 32 := Scalar.addi c0_i32_118 v189
  v190.toNat
def k0_dev20 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v191 : BitVec 32 := Scalar.addi v2 c20_i32
  let c32_i32_119 : BitVec 32 := 32#32
  let v192 : BitVec 32 := Scalar.remsi v191 c32_i32_119
  let c1_i32_121 : BitVec 32 := 1#32
  let v193 : BitVec 32 := Scalar.muli v192 c1_i32_121
  let v194 : BitVec 32 := Scalar.addi c0_i32_122 v193
  v194.toNat
def k0_dev21 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v195 : BitVec 32 := Scalar.addi v2 c21_i32
  let c32_i32_123 : BitVec 32 := 32#32
  let v196 : BitVec 32 := Scalar.remsi v195 c32_i32_123
  let c1_i32_125 : BitVec 32 := 1#32
  let v197 : BitVec 32 := Scalar.muli v196 c1_i32_125
  let v198 : BitVec 32 := Scalar.addi c0_i32_126 v197
  v198.toNat
def k0_dev22 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v199 : BitVec 32 := Scalar.addi v2 c22_i32
  let c32_i32_127 : BitVec 32 := 32#32
  let v200 : BitVec 32 := Scalar.remsi v199 c32_i32_127
  let c1_i32_129 : BitVec 32 := 1#32
  let v201 : BitVec 32 := Scalar.muli v200 c1_i32_129
  let v202 : BitVec 32 := Scalar.addi c0_i32_130 v201
  v202.toNat
def k0_dev23 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v203 : BitVec 32 := Scalar.addi v2 c23_i32
  let c32_i32_131 : BitVec 32 := 32#32
  let v204 : BitVec 32 := Scalar.remsi v203 c32_i32_131
  let c1_i32_133 : BitVec 32 := 1#32
  let v205 : BitVec 32 := Scalar.muli v204 c1_i32_133
  let v206 : BitVec 32 := Scalar.addi c0_i32_134 v205
  v206.toNat
def k0_dev24 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v207 : BitVec 32 := Scalar.addi v2 c24_i32
  let c32_i32_135 : BitVec 32 := 32#32
  let v208 : BitVec 32 := Scalar.remsi v207 c32_i32_135
  let c1_i32_137 : BitVec 32 := 1#32
  let v209 : BitVec 32 := Scalar.muli v208 c1_i32_137
  let v210 : BitVec 32 := Scalar.addi c0_i32_138 v209
  v210.toNat
def k0_dev25 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v211 : BitVec 32 := Scalar.addi v2 c25_i32
  let c32_i32_139 : BitVec 32 := 32#32
  let v212 : BitVec 32 := Scalar.remsi v211 c32_i32_139
  let c1_i32_141 : BitVec 32 := 1#32
  let v213 : BitVec 32 := Scalar.muli v212 c1_i32_141
  let v214 : BitVec 32 := Scalar.addi c0_i32_142 v213
  v214.toNat
def k0_dev26 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v215 : BitVec 32 := Scalar.addi v2 c26_i32
  let c32_i32_143 : BitVec 32 := 32#32
  let v216 : BitVec 32 := Scalar.remsi v215 c32_i32_143
  let c1_i32_145 : BitVec 32 := 1#32
  let v217 : BitVec 32 := Scalar.muli v216 c1_i32_145
  let v218 : BitVec 32 := Scalar.addi c0_i32_146 v217
  v218.toNat
def k0_dev27 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v219 : BitVec 32 := Scalar.addi v2 c27_i32
  let c32_i32_147 : BitVec 32 := 32#32
  let v220 : BitVec 32 := Scalar.remsi v219 c32_i32_147
  let c1_i32_149 : BitVec 32 := 1#32
  let v221 : BitVec 32 := Scalar.muli v220 c1_i32_149
  let v222 : BitVec 32 := Scalar.addi c0_i32_150 v221
  v222.toNat
def k0_dev28 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v223 : BitVec 32 := Scalar.addi v2 c28_i32
  let c32_i32_151 : BitVec 32 := 32#32
  let v224 : BitVec 32 := Scalar.remsi v223 c32_i32_151
  let c1_i32_153 : BitVec 32 := 1#32
  let v225 : BitVec 32 := Scalar.muli v224 c1_i32_153
  let v226 : BitVec 32 := Scalar.addi c0_i32_154 v225
  v226.toNat
def k0_dev29 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v227 : BitVec 32 := Scalar.addi v2 c29_i32
  let c32_i32_155 : BitVec 32 := 32#32
  let v228 : BitVec 32 := Scalar.remsi v227 c32_i32_155
  let c1_i32_157 : BitVec 32 := 1#32
  let v229 : BitVec 32 := Scalar.muli v228 c1_i32_157
  let v230 : BitVec 32 := Scalar.addi c0_i32_158 v229
  v230.toNat
def k0_dev30 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v231 : BitVec 32 := Scalar.addi v2 c30_i32
  let c32_i32_159 : BitVec 32 := 32#32
  let v232 : BitVec 32 := Scalar.remsi v231 c32_i32_159
  let c1_i32_161 : BitVec 32 := 1#32
  let v233 : BitVec 32 := Scalar.muli v232 c1_i32_161
  let v234 : BitVec 32 := Scalar.addi c0_i32_162 v233
  v234.toNat
def k0_dev31 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v235 : BitVec 32 := Scalar.addi v2 c31_i32
  let c32_i32_163 : BitVec 32 := 32#32
  let v236 : BitVec 32 := Scalar.remsi v235 c32_i32_163
  let c1_i32_165 : BitVec 32 := 1#32
  let v237 : BitVec 32 := Scalar.muli v236 c1_i32_165
  let v238 : BitVec 32 := Scalar.addi c0_i32_166 v237
  v238.toNat
def k0_off2 (d0 : Dev nD) (c1_i32_168 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v239 : BitVec 32 := Scalar.addi v2 c1_i32_168
  let c32_i32_169 : BitVec 32 := 32#32
  let v240 : BitVec 32 := Scalar.remsi v239 c32_i32_169
  let c32_i32_170 : BitVec 32 := 32#32
  let v241 : BitVec 32 := Scalar.muli v240 c32_i32_170
  let c0_i32_178 : BitVec 32 := 0#32
  ![v241.toNat, 0]
def k0_dev32 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_168 : BitVec 32 := 1#32
  let v239 : BitVec 32 := Scalar.addi v2 c1_i32_168
  let c32_i32_169 : BitVec 32 := 32#32
  let v240 : BitVec 32 := Scalar.remsi v239 c32_i32_169
  let c1_i32_174 : BitVec 32 := 1#32
  let v242 : BitVec 32 := Scalar.muli v240 c1_i32_174
  let v243 : BitVec 32 := Scalar.addi c0_i32_175 v242
  v243.toNat
def k0_dev33 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_179 : BitVec 32 := 2#32
  let v251 : BitVec 32 := Scalar.addi v2 c2_i32_179
  let c32_i32_180 : BitVec 32 := 32#32
  let v252 : BitVec 32 := Scalar.remsi v251 c32_i32_180
  let c1_i32_185 : BitVec 32 := 1#32
  let v254 : BitVec 32 := Scalar.muli v252 c1_i32_185
  let v255 : BitVec 32 := Scalar.addi c0_i32_186 v254
  v255.toNat
def k0_dev34 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_190 : BitVec 32 := 3#32
  let v263 : BitVec 32 := Scalar.addi v2 c3_i32_190
  let c32_i32_191 : BitVec 32 := 32#32
  let v264 : BitVec 32 := Scalar.remsi v263 c32_i32_191
  let c1_i32_196 : BitVec 32 := 1#32
  let v266 : BitVec 32 := Scalar.muli v264 c1_i32_196
  let v267 : BitVec 32 := Scalar.addi c0_i32_197 v266
  v267.toNat
def k0_dev35 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_201 : BitVec 32 := 4#32
  let v275 : BitVec 32 := Scalar.addi v2 c4_i32_201
  let c32_i32_202 : BitVec 32 := 32#32
  let v276 : BitVec 32 := Scalar.remsi v275 c32_i32_202
  let c1_i32_207 : BitVec 32 := 1#32
  let v278 : BitVec 32 := Scalar.muli v276 c1_i32_207
  let v279 : BitVec 32 := Scalar.addi c0_i32_208 v278
  v279.toNat
def k0_dev36 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_212 : BitVec 32 := 5#32
  let v287 : BitVec 32 := Scalar.addi v2 c5_i32_212
  let c32_i32_213 : BitVec 32 := 32#32
  let v288 : BitVec 32 := Scalar.remsi v287 c32_i32_213
  let c1_i32_218 : BitVec 32 := 1#32
  let v290 : BitVec 32 := Scalar.muli v288 c1_i32_218
  let v291 : BitVec 32 := Scalar.addi c0_i32_219 v290
  v291.toNat
def k0_dev37 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_223 : BitVec 32 := 6#32
  let v299 : BitVec 32 := Scalar.addi v2 c6_i32_223
  let c32_i32_224 : BitVec 32 := 32#32
  let v300 : BitVec 32 := Scalar.remsi v299 c32_i32_224
  let c1_i32_229 : BitVec 32 := 1#32
  let v302 : BitVec 32 := Scalar.muli v300 c1_i32_229
  let v303 : BitVec 32 := Scalar.addi c0_i32_230 v302
  v303.toNat
def k0_dev38 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_234 : BitVec 32 := 7#32
  let v311 : BitVec 32 := Scalar.addi v2 c7_i32_234
  let c32_i32_235 : BitVec 32 := 32#32
  let v312 : BitVec 32 := Scalar.remsi v311 c32_i32_235
  let c1_i32_240 : BitVec 32 := 1#32
  let v314 : BitVec 32 := Scalar.muli v312 c1_i32_240
  let v315 : BitVec 32 := Scalar.addi c0_i32_241 v314
  v315.toNat
def k0_dev39 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_245 : BitVec 32 := 8#32
  let v323 : BitVec 32 := Scalar.addi v2 c8_i32_245
  let c32_i32_246 : BitVec 32 := 32#32
  let v324 : BitVec 32 := Scalar.remsi v323 c32_i32_246
  let c1_i32_251 : BitVec 32 := 1#32
  let v326 : BitVec 32 := Scalar.muli v324 c1_i32_251
  let v327 : BitVec 32 := Scalar.addi c0_i32_252 v326
  v327.toNat
def k0_dev40 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_256 : BitVec 32 := 9#32
  let v335 : BitVec 32 := Scalar.addi v2 c9_i32_256
  let c32_i32_257 : BitVec 32 := 32#32
  let v336 : BitVec 32 := Scalar.remsi v335 c32_i32_257
  let c1_i32_262 : BitVec 32 := 1#32
  let v338 : BitVec 32 := Scalar.muli v336 c1_i32_262
  let v339 : BitVec 32 := Scalar.addi c0_i32_263 v338
  v339.toNat
def k0_dev41 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_267 : BitVec 32 := 10#32
  let v347 : BitVec 32 := Scalar.addi v2 c10_i32_267
  let c32_i32_268 : BitVec 32 := 32#32
  let v348 : BitVec 32 := Scalar.remsi v347 c32_i32_268
  let c1_i32_273 : BitVec 32 := 1#32
  let v350 : BitVec 32 := Scalar.muli v348 c1_i32_273
  let v351 : BitVec 32 := Scalar.addi c0_i32_274 v350
  v351.toNat
def k0_dev42 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_278 : BitVec 32 := 11#32
  let v359 : BitVec 32 := Scalar.addi v2 c11_i32_278
  let c32_i32_279 : BitVec 32 := 32#32
  let v360 : BitVec 32 := Scalar.remsi v359 c32_i32_279
  let c1_i32_284 : BitVec 32 := 1#32
  let v362 : BitVec 32 := Scalar.muli v360 c1_i32_284
  let v363 : BitVec 32 := Scalar.addi c0_i32_285 v362
  v363.toNat
def k0_dev43 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_289 : BitVec 32 := 12#32
  let v371 : BitVec 32 := Scalar.addi v2 c12_i32_289
  let c32_i32_290 : BitVec 32 := 32#32
  let v372 : BitVec 32 := Scalar.remsi v371 c32_i32_290
  let c1_i32_295 : BitVec 32 := 1#32
  let v374 : BitVec 32 := Scalar.muli v372 c1_i32_295
  let v375 : BitVec 32 := Scalar.addi c0_i32_296 v374
  v375.toNat
def k0_dev44 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_300 : BitVec 32 := 13#32
  let v383 : BitVec 32 := Scalar.addi v2 c13_i32_300
  let c32_i32_301 : BitVec 32 := 32#32
  let v384 : BitVec 32 := Scalar.remsi v383 c32_i32_301
  let c1_i32_306 : BitVec 32 := 1#32
  let v386 : BitVec 32 := Scalar.muli v384 c1_i32_306
  let v387 : BitVec 32 := Scalar.addi c0_i32_307 v386
  v387.toNat
def k0_dev45 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_311 : BitVec 32 := 14#32
  let v395 : BitVec 32 := Scalar.addi v2 c14_i32_311
  let c32_i32_312 : BitVec 32 := 32#32
  let v396 : BitVec 32 := Scalar.remsi v395 c32_i32_312
  let c1_i32_317 : BitVec 32 := 1#32
  let v398 : BitVec 32 := Scalar.muli v396 c1_i32_317
  let v399 : BitVec 32 := Scalar.addi c0_i32_318 v398
  v399.toNat
def k0_dev46 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_322 : BitVec 32 := 15#32
  let v407 : BitVec 32 := Scalar.addi v2 c15_i32_322
  let c32_i32_323 : BitVec 32 := 32#32
  let v408 : BitVec 32 := Scalar.remsi v407 c32_i32_323
  let c1_i32_328 : BitVec 32 := 1#32
  let v410 : BitVec 32 := Scalar.muli v408 c1_i32_328
  let v411 : BitVec 32 := Scalar.addi c0_i32_329 v410
  v411.toNat
def k0_dev47 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_333 : BitVec 32 := 16#32
  let v419 : BitVec 32 := Scalar.addi v2 c16_i32_333
  let c32_i32_334 : BitVec 32 := 32#32
  let v420 : BitVec 32 := Scalar.remsi v419 c32_i32_334
  let c1_i32_339 : BitVec 32 := 1#32
  let v422 : BitVec 32 := Scalar.muli v420 c1_i32_339
  let v423 : BitVec 32 := Scalar.addi c0_i32_340 v422
  v423.toNat
def k0_dev48 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_344 : BitVec 32 := 17#32
  let v431 : BitVec 32 := Scalar.addi v2 c17_i32_344
  let c32_i32_345 : BitVec 32 := 32#32
  let v432 : BitVec 32 := Scalar.remsi v431 c32_i32_345
  let c1_i32_350 : BitVec 32 := 1#32
  let v434 : BitVec 32 := Scalar.muli v432 c1_i32_350
  let v435 : BitVec 32 := Scalar.addi c0_i32_351 v434
  v435.toNat
def k0_dev49 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_355 : BitVec 32 := 18#32
  let v443 : BitVec 32 := Scalar.addi v2 c18_i32_355
  let c32_i32_356 : BitVec 32 := 32#32
  let v444 : BitVec 32 := Scalar.remsi v443 c32_i32_356
  let c1_i32_361 : BitVec 32 := 1#32
  let v446 : BitVec 32 := Scalar.muli v444 c1_i32_361
  let v447 : BitVec 32 := Scalar.addi c0_i32_362 v446
  v447.toNat
def k0_dev50 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_366 : BitVec 32 := 19#32
  let v455 : BitVec 32 := Scalar.addi v2 c19_i32_366
  let c32_i32_367 : BitVec 32 := 32#32
  let v456 : BitVec 32 := Scalar.remsi v455 c32_i32_367
  let c1_i32_372 : BitVec 32 := 1#32
  let v458 : BitVec 32 := Scalar.muli v456 c1_i32_372
  let v459 : BitVec 32 := Scalar.addi c0_i32_373 v458
  v459.toNat
def k0_dev51 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_377 : BitVec 32 := 20#32
  let v467 : BitVec 32 := Scalar.addi v2 c20_i32_377
  let c32_i32_378 : BitVec 32 := 32#32
  let v468 : BitVec 32 := Scalar.remsi v467 c32_i32_378
  let c1_i32_383 : BitVec 32 := 1#32
  let v470 : BitVec 32 := Scalar.muli v468 c1_i32_383
  let v471 : BitVec 32 := Scalar.addi c0_i32_384 v470
  v471.toNat
def k0_dev52 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_388 : BitVec 32 := 21#32
  let v479 : BitVec 32 := Scalar.addi v2 c21_i32_388
  let c32_i32_389 : BitVec 32 := 32#32
  let v480 : BitVec 32 := Scalar.remsi v479 c32_i32_389
  let c1_i32_394 : BitVec 32 := 1#32
  let v482 : BitVec 32 := Scalar.muli v480 c1_i32_394
  let v483 : BitVec 32 := Scalar.addi c0_i32_395 v482
  v483.toNat
def k0_dev53 (d0 : Dev nD) : Nat :=
  let c0_i32_406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_399 : BitVec 32 := 22#32
  let v491 : BitVec 32 := Scalar.addi v2 c22_i32_399
  let c32_i32_400 : BitVec 32 := 32#32
  let v492 : BitVec 32 := Scalar.remsi v491 c32_i32_400
  let c1_i32_405 : BitVec 32 := 1#32
  let v494 : BitVec 32 := Scalar.muli v492 c1_i32_405
  let v495 : BitVec 32 := Scalar.addi c0_i32_406 v494
  v495.toNat
def k0_dev54 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_410 : BitVec 32 := 23#32
  let v503 : BitVec 32 := Scalar.addi v2 c23_i32_410
  let c32_i32_411 : BitVec 32 := 32#32
  let v504 : BitVec 32 := Scalar.remsi v503 c32_i32_411
  let c1_i32_416 : BitVec 32 := 1#32
  let v506 : BitVec 32 := Scalar.muli v504 c1_i32_416
  let v507 : BitVec 32 := Scalar.addi c0_i32_417 v506
  v507.toNat
def k0_dev55 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_421 : BitVec 32 := 24#32
  let v515 : BitVec 32 := Scalar.addi v2 c24_i32_421
  let c32_i32_422 : BitVec 32 := 32#32
  let v516 : BitVec 32 := Scalar.remsi v515 c32_i32_422
  let c1_i32_427 : BitVec 32 := 1#32
  let v518 : BitVec 32 := Scalar.muli v516 c1_i32_427
  let v519 : BitVec 32 := Scalar.addi c0_i32_428 v518
  v519.toNat
def k0_dev56 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_432 : BitVec 32 := 25#32
  let v527 : BitVec 32 := Scalar.addi v2 c25_i32_432
  let c32_i32_433 : BitVec 32 := 32#32
  let v528 : BitVec 32 := Scalar.remsi v527 c32_i32_433
  let c1_i32_438 : BitVec 32 := 1#32
  let v530 : BitVec 32 := Scalar.muli v528 c1_i32_438
  let v531 : BitVec 32 := Scalar.addi c0_i32_439 v530
  v531.toNat
def k0_dev57 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_443 : BitVec 32 := 26#32
  let v539 : BitVec 32 := Scalar.addi v2 c26_i32_443
  let c32_i32_444 : BitVec 32 := 32#32
  let v540 : BitVec 32 := Scalar.remsi v539 c32_i32_444
  let c1_i32_449 : BitVec 32 := 1#32
  let v542 : BitVec 32 := Scalar.muli v540 c1_i32_449
  let v543 : BitVec 32 := Scalar.addi c0_i32_450 v542
  v543.toNat
def k0_dev58 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_454 : BitVec 32 := 27#32
  let v551 : BitVec 32 := Scalar.addi v2 c27_i32_454
  let c32_i32_455 : BitVec 32 := 32#32
  let v552 : BitVec 32 := Scalar.remsi v551 c32_i32_455
  let c1_i32_460 : BitVec 32 := 1#32
  let v554 : BitVec 32 := Scalar.muli v552 c1_i32_460
  let v555 : BitVec 32 := Scalar.addi c0_i32_461 v554
  v555.toNat
def k0_dev59 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_465 : BitVec 32 := 28#32
  let v563 : BitVec 32 := Scalar.addi v2 c28_i32_465
  let c32_i32_466 : BitVec 32 := 32#32
  let v564 : BitVec 32 := Scalar.remsi v563 c32_i32_466
  let c1_i32_471 : BitVec 32 := 1#32
  let v566 : BitVec 32 := Scalar.muli v564 c1_i32_471
  let v567 : BitVec 32 := Scalar.addi c0_i32_472 v566
  v567.toNat
def k0_dev60 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_476 : BitVec 32 := 29#32
  let v575 : BitVec 32 := Scalar.addi v2 c29_i32_476
  let c32_i32_477 : BitVec 32 := 32#32
  let v576 : BitVec 32 := Scalar.remsi v575 c32_i32_477
  let c1_i32_482 : BitVec 32 := 1#32
  let v578 : BitVec 32 := Scalar.muli v576 c1_i32_482
  let v579 : BitVec 32 := Scalar.addi c0_i32_483 v578
  v579.toNat
def k0_dev61 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_487 : BitVec 32 := 30#32
  let v587 : BitVec 32 := Scalar.addi v2 c30_i32_487
  let c32_i32_488 : BitVec 32 := 32#32
  let v588 : BitVec 32 := Scalar.remsi v587 c32_i32_488
  let c1_i32_493 : BitVec 32 := 1#32
  let v590 : BitVec 32 := Scalar.muli v588 c1_i32_493
  let v591 : BitVec 32 := Scalar.addi c0_i32_494 v590
  v591.toNat
def k0_dev62 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_498 : BitVec 32 := 31#32
  let v599 : BitVec 32 := Scalar.addi v2 c31_i32_498
  let c32_i32_499 : BitVec 32 := 32#32
  let v600 : BitVec 32 := Scalar.remsi v599 c32_i32_499
  let c1_i32_504 : BitVec 32 := 1#32
  let v602 : BitVec 32 := Scalar.muli v600 c1_i32_504
  let v603 : BitVec 32 := Scalar.addi c0_i32_505 v602
  v603.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x128 : Shape := ⟨2, ![256, 128]⟩
abbrev S1024x1 : Shape := ⟨2, ![1024, 1]⟩
abbrev S128x256x512 : Shape := ⟨3, ![128, 256, 512]⟩
abbrev S1024 : Shape := ⟨1, ![1024]⟩
abbrev S1x128 : Shape := ⟨2, ![1, 128]⟩
abbrev S1024x128 : Shape := ⟨2, ![1024, 128]⟩
abbrev S_ : Shape := ⟨0, ![]⟩
abbrev S1024x256x512 : Shape := ⟨3, ![1024, 256, 512]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x1, .i32⟩
  | .hbm, ⟨3, _⟩ => ⟨S128x256x512, .f32⟩
  | .hbm, ⟨4, _⟩ => ⟨S1024, .i32⟩
  | .hbm, ⟨5, _⟩ => ⟨S1024x1, .i32⟩
  | .hbm, ⟨6, _⟩ => ⟨S1x128, .i32⟩
  | .hbm, ⟨7, _⟩ => ⟨S1024x128, .i32⟩
  | .hbm, ⟨8, _⟩ => ⟨S1024x128, .i32⟩
  | .hbm, ⟨9, _⟩ => ⟨S1024x128, .i1⟩
  | .hbm, ⟨10, _⟩ => ⟨S1024x128, .i32⟩
  | .hbm, ⟨11, _⟩ => ⟨S_, .i32⟩
  | .hbm, ⟨12, _⟩ => ⟨S_, .i32⟩
  | .hbm, ⟨13, _⟩ => ⟨S1024x128, .i32⟩
  | .hbm, ⟨14, _⟩ => ⟨S_, .i32⟩
  | .hbm, ⟨15, _⟩ => ⟨S1024x128, .i32⟩
  | .hbm, ⟨16, _⟩ => ⟨S1024x128, .i1⟩
  | .hbm, ⟨17, _⟩ => ⟨S1024x128, .i32⟩
  | .hbm, ⟨18, _⟩ => ⟨S1024x128, .i32⟩
  | .hbm, ⟨19, _⟩ => ⟨S_, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x256x512, .f32⟩
  | .hbm, ⟨33, _⟩ => ⟨S1024x512, .f32⟩
  | .hbm, ⟨34, _⟩ => ⟨S1024x1, .i1⟩
  | .hbm, ⟨35, _⟩ => ⟨S_, .f32⟩
  | .hbm, ⟨36, _⟩ => ⟨S_, .f32⟩
  | .hbm, ⟨37, _⟩ => ⟨S1024x512, .i1⟩
  | .hbm, ⟨38, _⟩ => ⟨S1024x512, .f32⟩
  | .hbm, ⟨39, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_call1_call0_c : Ref sig .tc := ⟨.hbm, 11, rfl⟩
abbrev main_call1_call0_v0 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Proof.Views.lean ====
/-
The kernel's buffers and semaphores, named once for all 31 transfers.

A device `c` sends 31 blocks of 32 rows of its partial product, number `r : Fin 31` to the device `peer c r`, `r + 1`
places after `c` on the ring of 32. The receiving side keeps the block in slot `r + 1` of its landing buffer (slot 0 holds
its own block). This module names the transfer's source rows (`rowV`), its landing slot (`slotV`), the two completion
semaphores (`sendS`, `recvS`) and the barrier semaphore (`barS`) as functions of `r`, spelled as the kernel spells them at
each literal number; and cuts the partial product's buffer and the landing buffer into these pieces and joins them back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.Tactic

@[expose] public section

noncomputable section

namespace Cert.Dispatch

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## The ring of 32 devices -/

set_option backward.proofsInPublic true in
/-- The device `r + 1` places after `c`. -/
def peer (c : Dev nD) (r : Fin 31) : Dev nD := ⟨(c.val + (r.val + 1)) % 32, Nat.mod_lt _ (by decide)⟩

/-- The number whose step undoes step `r`: `r + 1` and `opp r + 1` add up to 32. -/
def opp (r : Fin 31) : Fin 31 := ⟨30 - r.val, by omega⟩

theorem opp_opp (r : Fin 31) : opp (opp r) = r := by revert r; decide
theorem peer_opp (c : Dev nD) (r : Fin 31) : peer (peer c r) (opp r) = c := by
  apply Fin.ext; have := c.isLt; have := r.isLt; simp only [peer, opp]; dsimp only [nD] at *; omega
theorem peer_opp' (c : Dev nD) (r : Fin 31) : peer (peer c (opp r)) r = c := by
  have h := peer_opp c (opp r); rwa [opp_opp] at h

/-- Step `r` around the ring, as a bijection of the devices. -/
def rot (r : Fin 31) : Dev nD ≃ Dev nD := ⟨fun c => peer c r, fun c => peer c (opp r), fun c => peer_opp c r, fun c => peer_opp' c r⟩

/-- Undoing a step, as a bijection of the step numbers. -/
def flip : Fin 31 ≃ Fin 31 := ⟨opp, opp, opp_opp, opp_opp⟩

set_option backward.proofsInPublic true in
/-- The device `k` places after `c`, as a bijection. -/
def shift (c : Dev nD) : Fin 32 ≃ Dev nD where
  toFun k := ⟨(c.val + k.val) % 32, Nat.mod_lt _ (by decide)⟩
  invFun d := ⟨(d.val + (32 - c.val)) % 32, Nat.mod_lt _ (by decide)⟩
  left_inv k := by apply Fin.ext; have := c.isLt; have := k.isLt; dsimp only [nD] at *; omega
  right_inv d := by apply Fin.ext; have := c.isLt; have := d.isLt; dsimp only [nD] at *; omega

theorem shift_zero (c : Dev nD) : shift c 0 = c := Fin.ext (Nat.mod_eq_of_lt c.isLt)
theorem shift_succ (c : Dev nD) (r : Fin 31) : shift c r.succ = peer c r := rfl

/-! ## Buffers and semaphores -/

abbrev xM : Memref sig .tc .vmem S1024x256 .f32 := Memref.whole cc0_stg0_0
abbrev iM : Memref sig .tc .vmem S1024x1 .i32 := Memref.whole cc0_stg1_0
abbrev wM : Memref sig .tc .vmem S4x256x512 .f32 := Memref.whole cc0_stg2_0
abbrev oM : Memref sig .tc .vmem S32x512 .f32 := Memref.whole cc0_stg3_0
abbrev partM : Memref sig .tc .vmem S1024x512 .f32 := Memref.whole cc0_scratch0
abbrev commM : Memref sig .tc .vmem S32x32x512 .f32 := Memref.whole cc0_scratch1

theorem inb_slot : ∀ r : Fin 31, ∀ a, (![r.val + 1, 0, 0] : Fin 3 → ℕ) a + S1x32x512.size a ≤ S32x32x512.size a := by decide
theorem inb_sem : ∀ r : Fin 31, ∀ a, (![r.val + 1] : Fin 1 → ℕ) a + S1.size a ≤ S32.size a := by decide
theorem inb_slots : ∀ k : Fin 32, ∀ a, (![k.val, 0, 0] : Fin 3 → ℕ) a + S1x32x512.size a ≤ S32x32x512.size a := by decide
theorem inb_rows : ∀ b : Dev nD, ∀ a, (![32 * b.val, 0] : Fin 2 → ℕ) a + S32x512.size a ≤ S1024x512.size a := by decide

/-- The rows of device `peer c r` in device `c`'s partial product: what transfer `r` reads. -/
abbrev rowV (c : Dev nD) (r : Fin 31) : Memref sig .tc .vmem S32x512 .f32 :=
  partM.slice (Rect.unit (s := S1024x512) (k0_off2 c (BitVec.ofNat 32 (1 + r.val))) S32x512.size (k0_off2_inb c r)) (fun _ => rfl)
/-- Slot `r + 1` of the landing buffer: what transfer `r` writes on its receiver. -/
abbrev slotV (r : Fin 31) : Memref sig .tc .vmem S32x512 .f32 :=
  (commM.slice (Rect.unit (s := S32x32x512) ![r.val + 1, 0, 0] S1x32x512.size (inb_slot r)) (fun _ => rfl)).squeeze S32x512 squeezes_S1x32x512_S32x512

abbrev sendS (r : Fin 31) : DmaSem sig := ((cc0_scratch2.slice (Rect.unit (s := S32) ![r.val + 1] S1.size (inb_sem r))).squeeze S_ squeezes_S1_S_).sem
abbrev recvS (r : Fin 31) : DmaSem sig := ((cc0_scratch3.slice (Rect.unit (s := S32) ![r.val + 1] S1.size (inb_sem r))).squeeze S_ squeezes_S1_S_).sem
/-- The runtime's barrier semaphore of collective id 0: not scoped to the launch. -/
abbrev barS : Sem sig := (SemArray.scalar (sig.barrier 0 rfl) : Sems sig S_).sem

set_option backward.proofsInPublic true in
theorem sendS_eq : ∀ r : Fin 31, sendS r = (⟨5 + r.val, by omega⟩ : Fin 68) := by decide +kernel
set_option backward.proofsInPublic true in
theorem recvS_eq : ∀ r : Fin 31, recvS r = (⟨37 + r.val, by omega⟩ : Fin 68) := by decide +kernel

abbrev barCell (c : Dev nD) : GSem nD τ sig := ((c : Thread nD τ), .reg barS)
abbrev sendCell (c : Dev nD) (r : Fin 31) : GSem nD τ sig := ((c : Thread nD τ), .dma (sendS r))
abbrev recvCell (c : Dev nD) (r : Fin 31) : GSem nD τ sig := ((c : Thread nD τ), .dma (recvS r))

/-- What one block's transfer credits its completion semaphores. -/
abbrev N : ℕ := (slotV 0).view.dmaCredit
theorem N_pos : 0 < N := View.dmaCredit_pos _ (by decide)

/-! ## The pieces' elements -/

abbrev rowSet (b : Dev nD) : Finset S1024x512.Idx := (Rect.unit (s := S1024x512) ![32 * b.val, 0] S32x512.size (inb_rows b)).set
abbrev slotSet (k : Fin 32) : Finset S32x32x512.Idx := (Rect.unit (s := S32x32x512) ![k.val, 0, 0] S1x32x512.size (inb_slots k)).set

theorem rowV_set (c : Dev nD) (r : Fin 31) : (rowV c r).view.set = rowSet (peer c r) := by
  refine (View.set_slice_whole cc0_scratch0 _).trans ?_
  have h : k0_off2 c (BitVec.ofNat 32 (1 + r.val)) = ![32 * (peer c r).val, 0] := by
    rw [k0_off2_eq]; simp only [peer, Nat.add_assoc]
  exact congrArg (fun R : Rect S1024x512 => R.set) (Rect.unit_congr (s := S1024x512) h (k0_off2_inb c r) (inb_rows (peer c r)))
theorem slotV_set (r : Fin 31) : (slotV r).view.set = slotSet r.succ := by
  rw [Memref.set_view_squeeze]
  exact View.set_slice_whole cc0_scratch1 _

theorem rows_disjoint (b b' : Dev nD) (h : b ≠ b') : Disjoint (rowSet b) (rowSet b') :=
  Ring.lead_disjoint (s := S1024x512) (NB := 32) (0 : Fin 2) 32 (fun b => ![32 * b.val, 0]) S32x512.size inb_rows (fun _ => rfl) rfl b b' h
theorem rows_cover : Finset.univ.biUnion rowSet = Finset.univ :=
  Ring.lead_cover (s := S1024x512) (NB := 32) (0 : Fin 2) 32 (fun b => ![32 * b.val, 0]) S32x512.size inb_rows (fun _ => rfl)
    (fun b a h => by match a, h with | 0, h => exact absurd rfl h | 1, _ => rfl) rfl
    (fun a h => by match a, h with | 0, h => exact absurd rfl h | 1, _ => rfl) rfl
theorem slots_disjoint (k k' : Fin 32) (h : k ≠ k') : Disjoint (slotSet k) (slotSet k') :=
  Ring.lead_disjoint (s := S32x32x512) (NB := 32) (0 : Fin 3) 1 (fun k => ![k.val, 0, 0]) S1x32x512.size inb_slots (fun k => (Nat.one_mul k.val).symm) rfl k k' h
theorem slots_cover : Finset.univ.biUnion slotSet = Finset.univ :=
  Ring.lead_cover (s := S32x32x512) (NB := 32) (0 : Fin 3) 1 (fun k => ![k.val, 0, 0]) S1x32x512.size inb_slots (fun k => (Nat.one_mul k.val).symm)
    (fun b a h => by match a, h with | 0, h => exact absurd rfl h | 1, _ => rfl | 2, _ => rfl) rfl
    (fun a h => by match a, h with | 0, h => exact absurd rfl h | 1, _ => rfl | 2, _ => rfl) rfl

/-! ## A family over 32 is its first and the other 31 -/

theorem bigSep_succ {M : Type} [URA M] (Φ : Fin 32 → sProp M) :
    bigSep Finset.univ Φ = iprop(Φ 0 ∗ bigSep Finset.univ fun r : Fin 31 => Φ r.succ) := by
  rw [Fin.univ_succ, Finset.cons_eq_insert, bigSep_insert (by simp), bigSep_map]; rfl

end Cert.Dispatch

end
-- ==== Proof.Protocol.lean ====
/-
The cross-device protocol: who waits for what, who pays it, and the contents handed over.

Each of the 32 devices first computes its whole partial product (1024 rows, its own four experts' contribution), puts its
own 32 rows of it into slot 0 of its landing buffer, and then:

* BARRIER (the runtime's semaphore `barS`, one cell per device, 31 units expected). Device `p` signals one unit to every
  other device. Its signal number `r`, to `peer p r`, hands that device the landing slot which the other's transfer will
  fill: the receiver `c = peer p r` reaches `p` by its step `opp r`, so the unit is duty `opp r` of `c`'s cell and its payload
  is `p`'s slot of transfer `opp r`, at arbitrary contents. A device waits for its 31 units before its first transfer: it
  then holds, for each `r`, the slot `r + 1` of `peer c r`.
* TRANSFER `r` of device `c` copies the rows of `peer c r` in `c`'s partial product (lent for the duration) into slot
  `r + 1` of `peer c r`. It pays two cells the credit `N` of one block:
  - the RECEIVE cell `recvS r` of `peer c r`, payload: that slot, holding at `(r + 1, i, j)` the entry
    `(32 * peer c r + i, j)` of `c`'s partial product (`commV (peer c r)`);
  - the SEND cell `sendS r` of `c` itself, payload: the lent rows, unchanged.
  Both cells have this one duty only. A device waits for its 31 receive cells in order, reads the landing buffer (all
  32 slots at `commV c`), stores the sum over the slots, and then waits for its 31 send cells.

A device waits on its barrier while it still owes its transfers' receive credits, hence the levels: barrier cells 1,
receive cells 2, everything else 0; at all later waits a device owes nothing. Every cell has one round, so each is closed
by its waiting device, which gets its counter back at zero.
-/
module

public import proofs.«01_k».proof.Proof.Views

@[expose] public section

noncomputable section

namespace Cert.Dispatch

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the pipeline library's copy and the protocol's, duties named by transfer numbers -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- A device's staged operands: the tokens, the experts' numbers, its own four experts' matrices. -/
def xV (c : Dev nD) : (cc0_stg0_0 : Ref sig .tc).ty.Contents (Elt F) :=
  (win0_0.blk (0 : Fin 1)).view.read (Elt F) (m ((c : Thread nD τ).loc main_arg0))
def iV (c : Dev nD) : (cc0_stg1_0 : Ref sig .tc).ty.Contents (Elt F) :=
  (win0_1.blk (0 : Fin 1)).view.read (Elt F) (m ((c : Thread nD τ).loc main_arg2))
def wV (c : Dev nD) : (cc0_stg2_0 : Ref sig .tc).ty.Contents (Elt F) :=
  (win0_2.blk (0 : Fin 1)).view.read (Elt F) (m ((c : Thread nD τ).loc main_arg3))

theorem inb_expert : ∀ e : Fin 4, ∀ a, (![e.val, 0, 0] : Fin 3 → ℕ) a + S1x256x512.size a ≤ S4x256x512.size a := by decide

/-- One expert's matrix as the kernel loads it. -/
def expertOf (w : (cc0_stg2_0 : Ref sig .tc).ty.Contents (Elt F)) (e : Fin 4) : Vec F S1x256x512 .f32 :=
  (wM : Memref sig .tc .vmem S4x256x512 .f32).view.readAt (Elt F) (Rect.unit (s := S4x256x512) ![e.val, 0, 0] S1x256x512.size (inb_expert e)).toLoadRect w

/-- The dispatch matrix of device `c`: entry `(t, 8 e + s)` selects token `t` for place `s` of the device's expert `e`. -/
def maskOf (c : Dev nD) (idx : Vec F S1024x1 .i32) : FVec F S1024x32 .f32 :=
  k0_pay9 (k0_pay2 idx) (k0_pay3 idx) (k0_pay4 c idx) (k0_pay5 c idx) (iota .tc S1024x32 32 [1] iota_S1024x32_d1_w32) k0_pay6 k0_pay7 k0_pay8

/-- Device `c`'s partial product. -/
def partOf (c : Dev nD) (x : Vec F S1024x256 .f32) (idx : Vec F S1024x1 .i32) (w : (cc0_stg2_0 : Ref sig .tc).ty.Contents (Elt F)) : FVec F S1024x512 .f32 :=
  k0_pay13 (maskOf c idx)
    (k0_pay10 (k0_pay2 idx) (k0_pay3 idx) (k0_pay4 c idx) (k0_pay5 c idx) (iota .tc S1024x32 32 [1] iota_S1024x32_d1_w32) k0_pay6 k0_pay7 k0_pay8 x)
    (k0_pay11 (k0_pay2 idx) (k0_pay3 idx) (k0_pay4 c idx) (k0_pay5 c idx) (iota .tc S1024x32 32 [1] iota_S1024x32_d1_w32) k0_pay6 k0_pay7 k0_pay8 x)
    (k0_pay12 (expertOf w 0)) (expertOf w 1) (expertOf w 2) (expertOf w 3)

def partV (c : Dev nD) : (cc0_scratch0 : Ref sig .tc).ty.Contents (Elt F) := partOf c (xV m c) (iV m c) (wV m c)

set_option backward.proofsInPublic true in
/-- The device whose block lands in slot `k` of device `c`. -/
def origin (c : Dev nD) (k : Fin 32) : Dev nD := ⟨(c.val + (32 - k.val)) % 32, Nat.mod_lt _ (by decide)⟩
/-- Row `i` of device `c`'s own 32. -/
def ownRow (c : Dev nD) (i : Fin 32) : Fin 1024 := ⟨32 * c.val + i.val, by have := c.isLt; dsimp only [nD] at this; omega⟩

theorem origin_peer (c : Dev nD) (r : Fin 31) : origin (peer c r) r.succ = c := by
  apply Fin.ext; have := c.isLt; have := r.isLt; simp only [origin, peer, Fin.val_succ]; dsimp only [nD] at *; omega
theorem origin_zero (c : Dev nD) : origin c 0 = c := by
  apply Fin.ext; have := c.isLt; simp only [origin, Fin.val_zero]; dsimp only [nD] at *; omega

/-- The landing buffer of device `c` when all blocks are there. -/
def commV (c : Dev nD) : (cc0_scratch1 : Ref sig .tc).ty.Contents (Elt F) :=
  fun (i : S32x32x512.Idx) => partV m (origin c (i 0)) (ix2 (ownRow c (i 1)) (i 2) : S1024x512.Idx)

/-- Device `c`'s result: the sum of its landing buffer's slots. -/
def outV (c : Dev nD) : (cc0_stg3_0 : Ref sig .tc).ty.Contents (Elt F) := k0_pay15 (commV m c)

/-! ## Pieces held -/

def slotPts (p : Dev nD) (r : Fin 31) (f : (cc0_scratch1 : Ref sig .tc).ty.Contents (Elt F)) : sProp 𝕄 :=
  (slotV r).view.loc (p : Thread nD τ) ↦[(slotV r).view.set]{fullShare} f
def rowPts (c : Dev nD) (r : Fin 31) : sProp 𝕄 :=
  (rowV c r).view.loc (c : Thread nD τ) ↦[(rowV c r).view.set]{fullShare} partV m c

omit [FloatOps F] in
instance slotPts_storable (p : Dev nD) (r : Fin 31) (f) : BI.Storable (upEmb : UEmb _ 𝕄) (slotPts (F := F) p r f) := by unfold slotPts; infer_instance
instance rowPts_storable (c : Dev nD) (r : Fin 31) : BI.Storable (upEmb : UEmb _ 𝕄) (rowPts (F := F) m c r) := by unfold rowPts; infer_instance

/-! ## The cells -/

/-- The kinds of cells: the barrier's, a send cell, a receive cell. -/
abbrev CK : Type := Unit ⊕ (Fin 31 ⊕ Fin 31)

abbrev csem : CK → SemLoc sig
  | .inl _ => .reg barS
  | .inr (.inl r) => .dma (sendS r)
  | .inr (.inr r) => .dma (recvS r)
abbrev kcell (ck : Dev nD × CK) : GSem nD τ sig := ((ck.1 : Thread nD τ), csem ck.2)

set_option backward.proofsInPublic true in
/-- The kind of a DMA semaphore of the protocol, read off its number. -/
def roleD (q : Fin 68) : Option CK :=
  if h : 5 ≤ q.val ∧ q.val < 36 then some (.inr (.inl ⟨q.val - 5, by omega⟩))
  else if h : 37 ≤ q.val then some (.inr (.inr ⟨q.val - 37, by omega⟩)) else none

def role : SemLoc sig → Option CK
  | .reg _ => some (.inl ())
  | .dma q => roleD q

theorem role_bar : role (.reg barS) = some (.inl ()) := rfl
theorem role_send (r : Fin 31) : role (.dma (sendS r)) = some (.inr (.inl r)) := by
  show roleD (sendS r) = _
  rw [sendS_eq]; unfold roleD; have := r.isLt
  rw [dif_pos ⟨by dsimp only; omega, by dsimp only; omega⟩]
  congr 3; apply Fin.ext; dsimp only; omega
theorem role_recv (r : Fin 31) : role (.dma (recvS r)) = some (.inr (.inr r)) := by
  show roleD (recvS r) = _
  rw [recvS_eq]; unfold roleD; have := r.isLt
  rw [dif_neg (by dsimp only; omega), dif_pos (by dsimp only; omega)]
  congr 3; apply Fin.ext; dsimp only; omega
theorem role_csem (k : CK) : role (csem k) = some k := by
  rcases k with _ | r | r
  · rfl
  · exact role_send r
  · exact role_recv r

theorem kcell_injective : Function.Injective (kcell : Dev nD × CK → GSem nD τ sig) := by
  rintro ⟨c, k⟩ ⟨c', k'⟩ h
  have h1 : c = c' := congrArg (fun g : GSem nD τ sig => g.1.1) h
  have h2 : some k = some k' := by rw [← role_csem, ← role_csem]; exact congrArg (fun g : GSem nD τ sig => role g.2) h
  rw [h1, Option.some.inj h2]

/-! ## The schedule -/

/-- Duty `d` of `c`'s barrier cell, paid by `peer c d`: the slot that `c`'s transfer `d` will fill. -/
def barPay (c : Dev nD) (d : Fin 31) : sProp 𝕄 := iprop(∃ f, slotPts (peer c d) d f)

def dutiesOf : Option CK → Finset (Fin 31)
  | some (.inl _) => Finset.univ
  | some (.inr _) => {0}
  | none => ∅
def amountOf : Option CK → ℕ
  | some (.inl _) => 1
  | _ => N
def payOf (c : Dev nD) (d : Fin 31) : Option CK → sProp 𝕄
  | some (.inl _) => barPay c d
  | some (.inr (.inl r)) => rowPts m c r
  | some (.inr (.inr r)) => slotPts c r (commV m c)
  | none => iprop(emp)

instance payOf_storable (c : Dev nD) (d : Fin 31) (o : Option CK) : BI.Storable (upEmb : UEmb _ 𝕄) (payOf (F := F) m c d o) := by
  rcases o with _ | _ | r | r <;> unfold payOf <;> (try unfold barPay) <;> infer_instance

/-- One round: a barrier cell's 31 duties of one unit, a send or receive cell's one duty of a block's credit. -/
def sched : Rounds.Schedule (GSem nD τ sig) (Fin 31) 𝕄 where
  duties g r := if r = 0 ∧ g.1.2 = .tc then dutiesOf (role g.2) else ∅
  unitless _ := False
  amount g _ _ := amountOf (role g.2)
  payload g _ d := payOf m g.1.1 d (role g.2)
  amount_pos g _ _ _ := by
    unfold amountOf; split
    · exact Nat.one_pos
    · exact N_pos

instance sched_payload_storable (g : GSem nD τ sig) (r : ℕ) (d : Fin 31) :
    BI.Storable (upEmb : UEmb _ 𝕄) ((sched (F := F) m).payload g r d) := payOf_storable m _ _ _

section Tables
variable (c : Dev nD) (r : Fin 31)

theorem duties_cell (k : CK) : (sched (F := F) m).duties (kcell (c, k)) 0 = dutiesOf (some k) := by
  dsimp only [sched]; rw [if_pos ⟨rfl, rfl⟩, role_csem]
theorem duties_later (g : GSem nD τ sig) : ∀ r, 1 ≤ r → (sched (F := F) m).duties g r = ∅ :=
  fun r hr => by dsimp only [sched]; exact if_neg fun h => by omega
theorem amount_cell (k : CK) (d : Fin 31) : (sched (F := F) m).amount (kcell (c, k)) 0 d = amountOf (some k) := by
  dsimp only [sched]; rw [role_csem]
theorem payload_cell (k : CK) (d : Fin 31) : (sched (F := F) m).payload (kcell (c, k)) 0 d = payOf m c d (some k) := by
  dsimp only [sched]; rw [role_csem]

theorem expect_bar : (sched (F := F) m).expect (barCell c) 0 = 31 := by
  unfold Schedule.expect Schedule.amountOf
  have h : (sched (F := F) m).duties (barCell c) 0 = Finset.univ := duties_cell m c (.inl ())
  rw [h, Finset.sum_congr rfl fun d _ => amount_cell m c (.inl ()) d]
  simp [amountOf]
theorem expect_xfer (k : Fin 31 ⊕ Fin 31) : (sched (F := F) m).expect (kcell (c, .inr k)) 0 = N := by
  unfold Schedule.expect Schedule.amountOf
  rw [duties_cell]
  simp only [dutiesOf, Finset.sum_singleton, amount_cell]; rfl

/-- What the barrier wait brings: every peer's landing slot. -/
theorem rest_bar : bigSep ((sched (F := F) m).duties (barCell c) 0 \ ∅) (fun d => (sched (F := F) m).payload (barCell c) 0 d)
    = bigSep Finset.univ (barPay (F := F) c) := by
  have h : (sched (F := F) m).duties (barCell c) 0 = Finset.univ := duties_cell m c (.inl ())
  rw [Finset.sdiff_empty, h]
  exact bigSep_congr fun d _ => payload_cell m c (.inl ()) d
/-- What a send or receive wait brings. -/
theorem rest_xfer (k : Fin 31 ⊕ Fin 31) :
    bigSep ((sched (F := F) m).duties (kcell (c, .inr k)) 0 \ ∅) (fun d => (sched (F := F) m).payload (kcell (c, .inr k)) 0 d)
    = payOf m c 0 (some (.inr k)) := by
  rw [Finset.sdiff_empty, duties_cell]
  exact (bigSep_singleton).trans (payload_cell m c (.inr k) 0)

end Tables

/-! ## What a device owes; the levels -/

/-- The receive credits of the transfers from number `n` on; -/
def sendO (c : Dev nD) (n : ℕ) : CellTallies nD τ sig Unit := ∑ r ∈ Ring.rangeSet 31 n 31, tallyAt (recvCell (peer c r) r) () N
/-- the barrier units of the signals from number `n` on; -/
def sigO (c : Dev nD) (n : ℕ) : CellTallies nD τ sig Unit := ∑ r ∈ Ring.rangeSet 31 n 31, tallyAt (barCell (peer c r)) () 1
/-- at launch, all of both. -/
def O₀ (c : Dev nD) : CellTallies nD τ sig Unit := sendO c 0 + sigO c 0

theorem sendO_step (c : Dev nD) (n : ℕ) (hn : n < 31) : sendO c n = sendO c (n + 1) + tallyAt (recvCell (peer c ⟨n, hn⟩) ⟨n, hn⟩) () N := by
  unfold sendO; rw [Ring.rangeSet_head hn hn, Finset.sum_insert (Ring.head_not_mem_rangeSet hn), add_comm]
theorem sigO_step (c : Dev nD) (n : ℕ) (hn : n < 31) : sigO c n = sigO c (n + 1) + tallyAt (barCell (peer c ⟨n, hn⟩)) () 1 := by
  unfold sigO; rw [Ring.rangeSet_head hn hn, Finset.sum_insert (Ring.head_not_mem_rangeSet hn), add_comm]
theorem sendO_done (c : Dev nD) : sendO c 31 = 0 := by unfold sendO; rw [Ring.rangeSet_empty le_rfl]; rfl
theorem sigO_done (c : Dev nD) : sigO c 31 = 0 := by unfold sigO; rw [Ring.rangeSet_empty le_rfl]; rfl

def L (g : GSem nD τ sig) : Finset Unit := if g.1.2 = .tc then {()} else ∅
def lvOf : Option CK → ℕ
  | some (.inl _) => 1
  | some (.inr (.inr _)) => 2
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (kcell (c, k)) u = lvOf (some k) := by unfold lv; rw [role_csem]

theorem sum_pos {cell : Fin 31 → GSem nD τ sig} {n : ℕ} {s : Finset (Fin 31)} {g : GSem nD τ sig} {u : Unit}
    (h : 0 < (∑ r ∈ s, tallyAt (nD := nD) (sig := sig) (cell r) () n) g u) : ∃ r, g = cell r := by
  by_contra hn
  rw [not_exists] at hn
  rw [Finset.sum_apply, Finsupp.finset_sum_apply, Finset.sum_eq_zero fun r _ => by rw [tallyAt_apply, if_neg fun h' => hn r h'.1]] at h
  exact Nat.lt_irrefl 0 h
theorem sendO_pos {c : Dev nD} {n : ℕ} {g : GSem nD τ sig} {u : Unit} (h : 0 < sendO c n g u) : ∃ r, g = recvCell (peer c r) r := sum_pos h
theorem O₀_pos {c : Dev nD} {g : GSem nD τ sig} {u : Unit} (h : 0 < O₀ c g u) :
    (∃ r, g = recvCell (peer c r) r) ∨ ∃ r, g = barCell (peer c r) := by
  unfold O₀ at h
  rw [Pi.add_apply, Finsupp.add_apply] at h
  rcases Nat.eq_zero_or_pos (sendO c 0 g u) with h0 | h0
  · rw [h0, Nat.zero_add] at h; exact Or.inr (sum_pos h)
  · exact Or.inl (sum_pos h0)

/-- The barrier wait: only receive credits, above the barrier, are owed. -/
theorem mayWait_bar (c : Dev nD) : (levAts L lv : sProp 𝕄) ⊢ MayWait (c : Thread nD τ) (.reg barS) () (sendO c 0) :=
  MayOwe.of_cut (L := L) (lev := lv) 1 (fun p hp => by rw [Finset.mem_singleton.mp hp, L_tc]; exact Finset.mem_singleton_self _)
    (fun g u hg => by obtain ⟨r, rfl⟩ := sendO_pos hg; rw [L_tc]; exact Finset.mem_singleton_self _)
    (fun p hp => by rw [Finset.mem_singleton.mp hp]; exact le_refl 1)
    (fun g u hg => by obtain ⟨r, rfl⟩ := sendO_pos hg; rw [lv_cell _ (.inr (.inr r))]; exact Nat.lt_succ_self 1)

/-- The staging semaphores' waits: at level 0, below everything owed. -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by rw [Finset.mem_singleton.mp hp]; unfold lv; rw [hq]; exact le_refl 0)
      (fun g u hg => by
        rcases O₀_pos hg with ⟨r, rfl⟩ | ⟨r, rfl⟩
        · rw [lv_cell _ (.inr (.inr r))]; exact Nat.zero_lt_succ 1
        · rw [lv_cell _ (.inl ())]; decide)
  · rw [MayWait_zero]; iintro -; iempintro

end Cert.Dispatch

end
-- ==== Proof.Landed.lean ====
/-
What the copies and the kernel's own loads and stores read and write, in terms of the contents `partV` and `commV`.
-/
module

public import proofs.«01_k».proof.Proof.Protocol

@[expose] public section

noncomputable section

namespace Cert.Dispatch

open Cert.KernelIdeal Cert.KernelIdeal.Gen

open Idealize.ShloMosaic Idealize.ShloMosaic.TcCoe
open Idealize.ShloMosaic.ValueIdx

variable {F : FTy → Type} [FloatOps F]
variable (m : (ℓ : Loc nD τ sig) → Buf (Elt F) ℓ)

/-- The element of a partial product that a transfer's view names `(i, j)`. -/
theorem rowV_emb (c : Dev nD) (r : Fin 31) (i : Fin 32) (j : Fin 512) :
    (rowV c r).view.emb (ix2 i j : S32x512.Idx) = (ix2 (ownRow (peer c r) i) j : S1024x512.Idx) := by
  have h := k0_off2_eq c r
  funext a
  apply Fin.ext
  have h0 : ∀ a : Fin 2, ((rowV c r).view.emb (ix2 i j : S32x512.Idx) a).val = k0_off2 c (BitVec.ofNat 32 (1 + r.val)) a + (ix2 i j : S32x512.Idx) a := fun a => by
    show k0_off2 c (BitVec.ofNat 32 (1 + r.val)) a + 1 * _ = _
    rw [Nat.one_mul]
  refine (h0 a).trans ?_
  rw [h]
  match a with
  | 0 => rfl
  | 1 => exact Nat.zero_add _

/-- The element of the landing buffer that a transfer's view names `(i, j)`. -/
theorem slotV_emb (r : Fin 31) (i : Fin 32) (j : Fin 512) :
    (slotV r).view.emb (ix2 i j : S32x512.Idx) = (ix3 r.succ i j : S32x32x512.Idx) := by
  have h : (slotV r).view.emb (ix2 i j : S32x512.Idx)
      = (Rect.unit (s := S32x32x512) ![r.val + 1, 0, 0] S1x32x512.size (inb_slot r)).emb (Shape.reshapeEquiv (s := S1x32x512) (s' := S32x512) rfl (ix2 i j)) := rfl
  rw [h]
  refine (congrArg _ (reshapeEquiv_ix2_1ab (a := 32) (b := 512) rfl i j)).trans ?_
  funext a
  apply Fin.ext
  match a with
  | 0 => rfl
  | 1 => show 0 + 1 * i.val = i.val; omega
  | 2 => show 0 + 1 * j.val = j.val; omega

/-- A transfer leaves its receiver's slot at the landing buffer's final contents. -/
theorem landed (c : Dev nD) (r : Fin 31) (fd : (cc0_scratch1 : Ref sig .tc).ty.Contents (Elt F)) :
    ∀ i ∈ (slotV r).view.set, (slotV r).view.write (Elt F) fd ((rowV c r).view.read (Elt F) (partV m c)) Finset.univ i = commV m (peer c r) i := by
  intro i hi
  obtain ⟨x, -, rfl⟩ := Finset.mem_map.mp hi
  rw [View.write_emb_of_mem _ _ (Finset.mem_univ x)]
  obtain ⟨a, b, rfl⟩ : ∃ (a : Fin 32) (b : Fin 512), x = (ix2 a b : S32x512.Idx) := ⟨x 0, x 1, by funext k; match k with | 0 => rfl | 1 => rfl⟩
  show partV m c ((rowV c r).view.emb (ix2 a b : S32x512.Idx)) = commV m (peer c r) ((slotV r).view.emb (ix2 a b : S32x512.Idx))
  rw [rowV_emb, slotV_emb]
  show _ = partV m (origin (peer c r) r.succ) _
  rw [origin_peer]

abbrev rOwn (c : Dev nD) : Rect S1024x512 := Rect.unit (s := S1024x512) (k0_off1 c) S32x512.size (k0_off1_inb c)
abbrev rSlot0 : Rect S32x32x512 := Rect.unit (s := S32x32x512) ![0, 0, 0] S1x32x512.size inb_S32x32x512_S1x32x512_0_0_0

theorem rSlot0_set : ((commM : Memref sig .tc .vmem S32x32x512 .f32).access rSlot0 : View sig .tc _ _ _).set = slotSet 0 := View.set_slice_whole cc0_scratch1 _

/-- The kernel's own store fills slot 0 with the device's own rows. -/
theorem own_slot (c : Dev nD) (f : (cc0_scratch1 : Ref sig .tc).ty.Contents (Elt F)) :
    ∀ i ∈ slotSet 0, ((commM : Memref sig .tc .vmem S32x32x512 .f32).access rSlot0 : View sig .tc _ _ _).write (Elt F) f
      (k0_pay14 ((partM : Memref sig .tc .vmem S1024x512 .f32).view.readAt (Elt F) (rOwn c).toLoadRect (partV m c))) Finset.univ i = commV m c i := by
  intro i hi
  rw [← rSlot0_set] at hi
  obtain ⟨x, -, rfl⟩ := Finset.mem_map.mp hi
  rw [View.write_emb_of_mem _ _ (Finset.mem_univ x)]
  obtain ⟨a, b, rfl⟩ : ∃ (a : Fin 32) (b : Fin 512), x = (ix3 0 a b : S1x32x512.Idx) :=
    ⟨x 1, x 2, by funext k; match k with | 0 => exact Fin.ext (Nat.lt_one_iff.mp (x 0).isLt) | 1 => rfl | 2 => rfl⟩
  have he : ((commM : Memref sig .tc .vmem S32x32x512 .f32).access rSlot0 : View sig .tc _ _ _).emb (ix3 0 a b : S1x32x512.Idx) = (ix3 0 a b : S32x32x512.Idx) := by
    funext k; apply Fin.ext
    match k with
    | 0 => rfl
    | 1 => show 0 + 1 * a.val = a.val; omega
    | 2 => show 0 + 1 * b.val = b.val; omega
  rw [he]
  show _ = partV m (origin c 0) (ix2 (ownRow c a) b : S1024x512.Idx)
  rw [origin_zero]
  show k0_pay14 ((partM : Memref sig .tc .vmem S1024x512 .f32).view.readAt (Elt F) (rOwn c).toLoadRect (partV m c)) (ix3 0 a b : S1x32x512.Idx) = _
  unfold k0_pay14
  refine (shapeCast_ab_1ab_apply _ _ 0 a b).trans ?_
  show partV m c ((rOwn c).emb (ix2 a b : S32x512.Idx)) = _
  congr 1
  have h := k0_off1_eq c
  funext k
  apply Fin.ext
  have h0 : ((rOwn c).emb (ix2 a b : S32x512.Idx) k).val = k0_off1 c k + (ix2 a b : S32x512.Idx) k := by
    show k0_off1 c k + 1 * _ = _
    rw [Nat.one_mul]
  refine h0.trans ?_
  rw [h]
  match k with
  | 0 => rfl
  | 1 => exact Nat.zero_add _

end Cert.Dispatch

end
-- ==== Proof.Steps.lean ====
/-
The four phases of a device's communication, each as a state indexed by how many of its steps are done and one lemma for
a step: signalling the peers, sending to them, waiting for their blocks, waiting for the own transfers. A step's lemma
holds at a symbolic device and a symbolic step number, with whatever else the device holds as a frame `R`.
-/
module

public import proofs.«01_k».proof.Proof.Landed

@[expose] public section

noncomputable section

namespace Cert.Dispatch

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × CK → ℕ)

/-! ## The records every device keeps: all cells' invariants, and that all are at round 0 or later -/

def records : sProp 𝕄 :=
  iprop((bigSep Finset.univ fun ck : Dev nD × CK => cellInv ER (sched m) (K ck) (kcell ck))
    ∗ bigSep Finset.univ fun ck : Dev nD × CK => reached ER (kcell ck) 0)

instance records_persistent : BI.Persistent (records m K) := by unfold records; infer_instance

theorem inv_elim (ck : Dev nD × CK) :
    (bigSep Finset.univ fun ck : Dev nD × CK => (cellInv ER (sched m) (K ck) (kcell ck) : sProp 𝕄)) ⊢ cellInv ER (sched m) (K ck) (kcell ck) := bigSep_elim (Finset.mem_univ ck)
theorem reached_elim (ck : Dev nD × CK) :
    (bigSep Finset.univ fun ck : Dev nD × CK => (reached ER (kcell ck) 0 : sProp 𝕄)) ⊢ reached ER (kcell ck) 0 := bigSep_elim (Finset.mem_univ ck)
theorem inv_of (ck : Dev nD × CK) : records m K ⊢ cellInv ER (sched m) (K ck) (kcell ck) := by
  unfold records; iintro ⟨#HI, -⟩
  iapply (inv_elim m K ck); iexact HI
theorem reached_of (ck : Dev nD × CK) : records m K ⊢ reached ER (kcell ck) 0 := by
  unfold records; iintro ⟨-, #HR⟩
  iapply (reached_elim ck); iexact HR

abbrev kBar (c : Dev nD) : Dev nD × CK := (c, .inl ())
abbrev kSend (c : Dev nD) (r : Fin 31) : Dev nD × CK := (c, .inr (.inl r))
abbrev kRecv (c : Dev nD) (r : Fin 31) : Dev nD × CK := (c, .inr (.inr r))

/-! ## The states -/

/-- `n` peers signalled: for each other, the duty's token and the own slot to hand over. -/
def SigSt (c : Dev nD) (n : ℕ) : sProp 𝕄 :=
  iprop((∃ W, owes (c : Thread nD τ) (sendO c 0 + sigO c n) W)
    ∗ bigSep (Ring.rangeSet 31 n 31) fun r => iprop(dutyTok ER (barCell (peer c r)) 0 (opp r) ∗ ∃ f, slotPts c (opp r) f))

/-- `n` blocks sent: for each other, both duties' tokens, the receiver's slot and the rows; of each sent, the credit with
    which to wait for it. -/
def SendSt (c : Dev nD) (n : ℕ) : sProp 𝕄 :=
  iprop((∃ W, owes (c : Thread nD τ) (sendO c n) W)
    ∗ (bigSep (Ring.rangeSet 31 n 31) fun r => iprop(dutyTok ER (sendCell c r) 0 0 ∗ dutyTok ER (recvCell (peer c r) r) 0 0
        ∗ (∃ f, slotPts (peer c r) r f) ∗ rowPts m c r))
    ∗ bigSep (Ring.rangeSet 31 0 n) fun r => cred (tallyAt (sendCell c r) () N))

/-- `n` blocks arrived. -/
def RecvSt (c : Dev nD) (n : ℕ) : sProp 𝕄 :=
  iprop((∃ W, owes (c : Thread nD τ) 0 W)
    ∗ (bigSep (Ring.rangeSet 31 n 31) fun r => iprop(cred (tallyAt (recvCell c r) () N) ∗ atPos ER (recvCell c r) 0 ∅ 0))
    ∗ bigSep (Ring.rangeSet 31 0 n) fun r => iprop(semVal (recvCell c r) 0 ∗ slotPts c r (commV m c)))

/-- `n` own transfers done. -/
def DoneSt (c : Dev nD) (n : ℕ) : sProp 𝕄 :=
  iprop((∃ W, owes (c : Thread nD τ) 0 W)
    ∗ (bigSep (Ring.rangeSet 31 n 31) fun r => iprop(cred (tallyAt (sendCell c r) () N) ∗ atPos ER (sendCell c r) 0 ∅ 0))
    ∗ bigSep (Ring.rangeSet 31 0 n) fun r => iprop(semVal (sendCell c r) 0 ∗ rowPts m c r))

variable {α : Type} {Q : α → sProp (MT nD τ sig Unit (Elt F) ℕ UU ℕ)} {R : sProp (MT nD τ sig Unit (Elt F) ℕ UU ℕ)}
  {k : PUnit → Prog (TpuEff nD τ sig (Elt F) Λ₀ .tc) α}

/-! ## The payloads, and a finished run one longer -/

theorem pay_send (c : Dev nD) (r : Fin 31) : (sched (F := F) m).payload (sendCell c r) 0 0 = rowPts m c r := payload_cell m c (.inr (.inl r)) 0
theorem pay_recv (c : Dev nD) (r : Fin 31) : (sched (F := F) m).payload (recvCell c r) 0 0 = slotPts c r (commV m c) := payload_cell m c (.inr (.inr r)) 0
theorem rest_send (c : Dev nD) (r : Fin 31) :
    bigSep ((sched (F := F) m).duties (sendCell c r) 0 \ ∅) (fun d => (sched (F := F) m).payload (sendCell c r) 0 d) = rowPts m c r := rest_xfer m c (.inl r)
theorem rest_recv (c : Dev nD) (r : Fin 31) :
    bigSep ((sched (F := F) m).duties (recvCell c r) 0 \ ∅) (fun d => (sched (F := F) m).payload (recvCell c r) 0 d) = slotPts c r (commV m c) := rest_xfer m c (.inr r)

theorem run_snoc {Φ : Fin 31 → sProp 𝕄} (n : ℕ) (hn : n < 31) :
    bigSep (Ring.rangeSet 31 0 (n + 1)) Φ = iprop(Φ ⟨n, hn⟩ ∗ bigSep (Ring.rangeSet 31 0 n) Φ) := Ring.bigSep_rangeSet_last (Nat.succ_pos n) hn

theorem arrive (c : Dev nD) (r : Fin 31) (f : (cc0_scratch1 : Ref sig .tc).ty.Contents (Elt F)) :
    ((slotV r).view.loc (peer c r : Thread nD τ) ↦[(slotV r).view.set]{fullShare} ((slotV r).view.write (Elt F) f ((rowV c r).view.read (Elt F) (partV m c)) Finset.univ) : sProp 𝕄)
      ⊢ (sched (F := F) m).payload (recvCell (peer c r) r) 0 0 := by
  rw [pay_recv]; exact Entails.of_eq (pointsTo_congr (landed m c r f))

/-! ## The steps -/

theorem sig_step (c : Dev nD) (n : ℕ) (hn : n < 31) (d : Dev nD) (hd : d = peer c ⟨n, hn⟩)
    (h : iprop(records m K ∗ SigSt c (n + 1) ∗ R) ⊢ wp frame (wpE (defs₀ (F := F)) 𝒱₀ (c : Thread nD τ) none) Set.univ (k ⟨⟩) Q) :
    iprop(records m K ∗ SigSt c n ∗ R) ⊢ wp frame (wpE (defs₀ (F := F)) 𝒱₀ (c : Thread nD τ) none) Set.univ
      (.op (.semSignal (d : Thread nD τ) barS (1#32).toInt) k) Q := by
  subst hd
  unfold SigSt
  rw [Ring.bigSep_rangeSet_head hn hn, sigO_step c n hn, ← add_assoc]
  iintro ⟨#HR, ⟨⟨%W, HO⟩, ⟨⟨Ht, Hs⟩, Hrest⟩⟩, HF⟩
  iapply (Rounds.wp_signal 𝒱₀ ER (sched m) (c : Thread nD τ) none (dst := (peer c ⟨n, hn⟩ : Thread nD τ)) (κ := K (kBar (peer c ⟨n, hn⟩)))
      (d := opp ⟨n, hn⟩) (by rw [duties_cell m _ (.inl ())]; exact Finset.mem_univ _) ((amount_cell m (peer c ⟨n, hn⟩) (.inl ()) _).trans (by decide)) ()
      (sendO c 0 + sigO c (n + 1)) rfl) $$ [HO Ht Hs]
  · isplitr; · iapply (inv_of m K (kBar (peer c ⟨n, hn⟩))); iexact HR
    isplitl [HO]; · iexact HO
    isplitl [Ht]; · iexact Ht
    isplitl [Hs]
    · rw [payload_cell m (peer c ⟨n, hn⟩) (.inl ())]; unfold payOf barPay; rw [peer_opp]; iexact Hs
    iapply (reached_of m K (kBar (peer c ⟨n, hn⟩))); iexact HR
  iintro HO
  iapply h
  isplitr; · iexact HR
  isplitr [HF]
  · unfold SigSt
    isplitl [HO]; · iexists W; iexact HO
    iexact Hrest
  iexact HF

/-- The library's rule for an addressed transfer, at the protocol's cells. -/
theorem wp_send_at (c : Dev nD) (r : Fin 31)
    {hsc : (slotV r).view.ref.isScScratch = false} {hsrc : (rowV c r).view.WordExact} {hdst : (slotV r).view.WordExact}
    {hsem : DmaTarget.Typed .vmem (.dma (recvS r)) (.remote (Dev.tc (peer c r) : Thread nD τ) (slotV r) (.dma (sendS r)) hsc)}
    (f : (cc0_scratch1 : Ref sig .tc).ty.Contents (Elt F)) (O O' : CellTallies nD τ sig Unit) (hO : O = O' + tallyAt (recvCell (peer c r) r) () N) (W : Waits sig Unit) :
    iprop(cellInv ER (sched m) (K (kSend c r)) (sendCell c r) ∗ cellInv ER (sched m) (K (kRecv (peer c r) r)) (recvCell (peer c r) r)
        ∗ rowPts m c r ∗ slotPts (peer c r) r f ∗ owes (c : Thread nD τ) O W
        ∗ dutyTok ER (sendCell c r) 0 0 ∗ reached ER (sendCell c r) 0
        ∗ dutyTok ER (recvCell (peer c r) r) 0 0 ∗ reached ER (recvCell (peer c r) r) 0)
      ⊢ iprop(((cred (tallyAt (sendCell c r) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowV c r) (.remote (Dev.tc (peer c r) : Thread nD τ) (slotV r) (.dma (sendS r)) hsc) (.dma (recvS r)) hsrc hdst hsem) k) Q) := by
  have hN : (slotV r).view.amount (.dma (recvS r)) = N := rfl
  have hd₁ : (0 : Fin 31) ∈ (sched (F := F) m).duties (sendCell c r) 0 := by rw [duties_cell m c (.inr (.inl r))]; exact Finset.mem_singleton_self _
  have hd₂ : (0 : Fin 31) ∈ (sched (F := F) m).duties (recvCell (peer c r) r) 0 := by rw [duties_cell m _ (.inr (.inr r))]; exact Finset.mem_singleton_self _
  have hk₁ : (sched (F := F) m).amount (sendCell c r) 0 0 = N := amount_cell m c (.inr (.inl r)) 0
  have hk₂ : (sched (F := F) m).amount (recvCell (peer c r) r) 0 0 = N := amount_cell m _ (.inr (.inr r)) 0
  unfold rowPts slotPts
  exact Rounds.wp_send_pointsTo 𝒱₀ ER (sched m) (c : Thread nD τ) none (κ₁ := K (kSend c r)) (κ₂ := K (kRecv (peer c r) r))
    (r₁ := 0) (r₂ := 0) (d₁ := 0) (d₂ := 0) (c' := (peer c r : Thread nD τ)) (src := rowV c r) (dst := slotV r) (fs := partV m c) (q := fullShare)
    (sS := .dma (sendS r)) (sem := .dma (recvS r)) (fd := f) hd₁ hd₂ () () N hN hk₁ hk₂ O' hO (W := W)
    (Entails.of_eq (pay_send m c r).symm) (arrive m c r f)

theorem send_step (c : Dev nD) (n : ℕ) (hn : n < 31) (d : Dev nD) (hd : d = peer c ⟨n, hn⟩)
    {hsc : (slotV ⟨n, hn⟩).view.ref.isScScratch = false}
    {hsrc : (rowV c ⟨n, hn⟩).view.WordExact} {hdst : (slotV ⟨n, hn⟩).view.WordExact}
    {hsem : DmaTarget.Typed .vmem (.dma (recvS ⟨n, hn⟩)) (.remote (Dev.tc d : Thread nD τ) (slotV ⟨n, hn⟩) (.dma (sendS ⟨n, hn⟩)) hsc)}
    (h : iprop(records m K ∗ SendSt m c (n + 1) ∗ R) ⊢ wp frame (wpE (defs₀ (F := F)) 𝒱₀ (c : Thread nD τ) none) Set.univ (k ⟨⟩) Q) :
    iprop(records m K ∗ SendSt m c n ∗ R) ⊢ wp frame (wpE (defs₀ (F := F)) 𝒱₀ (c : Thread nD τ) none) Set.univ
      (.op (.enqueueDma (rowV c ⟨n, hn⟩) (.remote (Dev.tc d : Thread nD τ) (slotV ⟨n, hn⟩) (.dma (sendS ⟨n, hn⟩)) hsc) (.dma (recvS ⟨n, hn⟩)) hsrc hdst hsem) k) Q := by
  subst hd
  unfold SendSt
  rw [Ring.bigSep_rangeSet_head hn hn, sendO_step c n hn]
  iintro ⟨#HR, ⟨⟨%W, HO⟩, ⟨⟨HtS, HtV, ⟨%f, Hs⟩, Hr⟩, Hrest⟩, Hcs⟩, HF⟩
  iapply (wp_send_at m K c ⟨n, hn⟩ f _ (sendO c (n + 1)) rfl W) $$ [HO HtS HtV Hs Hr]
  · isplitr; · iapply (inv_of m K (kSend c ⟨n, hn⟩)); iexact HR
    isplitr; · iapply (inv_of m K (kRecv (peer c ⟨n, hn⟩) ⟨n, hn⟩)); iexact HR
    isplitl [Hr]; · iexact Hr
    isplitl [Hs]; · iexact Hs
    isplitl [HO]; · iexact HO
    isplitl [HtS]; · iexact HtS
    isplitr; · iapply (reached_of m K (kSend c ⟨n, hn⟩)); iexact HR
    isplitl [HtV]; · iexact HtV
    iapply (reached_of m K (kRecv (peer c ⟨n, hn⟩) ⟨n, hn⟩)); iexact HR
  iintro ⟨Hc, HO⟩
  iapply h
  isplitr; · iexact HR
  isplitr [HF]
  · unfold SendSt
    rw [run_snoc n hn]
    isplitl [HO]; · iexists W; iexact HO
    isplitl [Hrest]; · iexact Hrest
    isplitl [Hc]; · iexact Hc
    iexact Hcs
  iexact HF

theorem recv_step (c : Dev nD) (n : ℕ) (hn : n < 31) {src : Memref sig .tc .vmem S32x512 .f32}
    {hsrc : src.view.WordExact} {hdst : (slotV ⟨n, hn⟩).view.WordExact}
    (h : iprop(records m K ∗ RecvSt m c (n + 1) ∗ R) ⊢ wp frame (wpE (defs₀ (F := F)) 𝒱₀ (c : Thread nD τ) none) Set.univ (k ⟨⟩) Q) :
    iprop(records m K ∗ RecvSt m c n ∗ R) ⊢ wp frame (wpE (defs₀ (F := F)) 𝒱₀ (c : Thread nD τ) none) Set.univ
      (.op (.waitDma2 (recvS ⟨n, hn⟩) src (slotV ⟨n, hn⟩) hsrc hdst) k) Q := by
  unfold RecvSt
  rw [Ring.bigSep_rangeSet_head hn hn]
  iintro ⟨#HR, ⟨⟨%W, HO⟩, ⟨⟨Hc, Hat⟩, Hrest⟩, Hdone⟩, HF⟩
  iapply (Rounds.wp_wait_rest_token 𝒱₀ ER (sched m) (c : Thread nD τ) none (κ := K (kRecv c ⟨n, hn⟩))
      (wpE_waitDma2_eq 𝒱₀ (c : Thread nD τ) none Set.univ) (Set.mem_univ _) () (O := 0) (W := W) (R := 0) (m := 0) (T := ∅)
      (by rw [Nat.zero_add]; exact (expect_xfer m c (.inr ⟨n, hn⟩)).symm)) $$ [Hc HO Hat]
  · isplitr; · iapply (inv_of m K (kRecv c ⟨n, hn⟩)); iexact HR
    isplitl [Hc]; · iexact Hc
    isplitl [HO]; · iexact HO
    isplitr; · rw [MayWait_zero]; iempintro
    iexact Hat
  iintro ⟨HO, Hat, -, Hpay⟩
  ihave Hs := (Entails.of_eq (rest_recv m c ⟨n, hn⟩)) $$ Hpay
  imod (Rounds.cell_close ER (sched m) (Set.mem_univ (K (kRecv c ⟨n, hn⟩))) (fun h => h) (R := 0 + 1) (duties_later m (recvCell c ⟨n, hn⟩))) $$ [Hat] with Hz
  · isplitr; · iapply (inv_of m K (kRecv c ⟨n, hn⟩)); iexact HR
    iexact Hat
  iapply h
  isplitr; · iexact HR
  isplitr [HF]
  · unfold RecvSt
    rw [run_snoc n hn]
    isplitl [HO]; · iexists _; iexact HO
    isplitl [Hrest]; · iexact Hrest
    isplitr [Hdone]
    · isplitl [Hz]; · iexact Hz
      iexact Hs
    iexact Hdone
  iexact HF

theorem done_step (c : Dev nD) (n : ℕ) (hn : n < 31) {src dst : Memref sig .tc .vmem S32x512 .f32}
    {hsrc : src.view.WordExact} {hdst : dst.view.WordExact} (hN : dst.view.dmaCredit = N)
    (h : iprop(records m K ∗ DoneSt m c (n + 1) ∗ R) ⊢ wp frame (wpE (defs₀ (F := F)) 𝒱₀ (c : Thread nD τ) none) Set.univ (k ⟨⟩) Q) :
    iprop(records m K ∗ DoneSt m c n ∗ R) ⊢ wp frame (wpE (defs₀ (F := F)) 𝒱₀ (c : Thread nD τ) none) Set.univ
      (.op (.waitDma2 (sendS ⟨n, hn⟩) src dst hsrc hdst) k) Q := by
  unfold DoneSt
  rw [Ring.bigSep_rangeSet_head hn hn]
  iintro ⟨#HR, ⟨⟨%W, HO⟩, ⟨⟨Hc, Hat⟩, Hrest⟩, Hdone⟩, HF⟩
  rw [← hN]
  iapply (Rounds.wp_wait_rest_token 𝒱₀ ER (sched m) (c : Thread nD τ) none (κ := K (kSend c ⟨n, hn⟩))
      (wpE_waitDma2_eq 𝒱₀ (c : Thread nD τ) none Set.univ) (Set.mem_univ _) () (O := 0) (W := W) (R := 0) (m := 0) (T := ∅)
      (by rw [Nat.zero_add, hN]; exact (expect_xfer m c (.inl ⟨n, hn⟩)).symm)) $$ [Hc HO Hat]
  · isplitr; · iapply (inv_of m K (kSend c ⟨n, hn⟩)); iexact HR
    isplitl [Hc]; · iexact Hc
    isplitl [HO]; · iexact HO
    isplitr; · rw [MayWait_zero]; iempintro
    iexact Hat
  iintro ⟨HO, Hat, -, Hpay⟩
  ihave Hs := (Entails.of_eq (rest_send m c ⟨n, hn⟩)) $$ Hpay
  imod (Rounds.cell_close ER (sched m) (Set.mem_univ (K (kSend c ⟨n, hn⟩))) (fun h => h) (R := 0 + 1) (duties_later m (sendCell c ⟨n, hn⟩))) $$ [Hat] with Hz
  · isplitr; · iapply (inv_of m K (kSend c ⟨n, hn⟩)); iexact HR
    iexact Hat
  iapply h
  isplitr; · iexact HR
  isplitr [HF]
  · unfold DoneSt
    rw [run_snoc n hn, ← hN]
    isplitl [HO]; · iexists _; iexact HO
    isplitl [Hrest]; · iexact Hrest
    isplitr [Hdone]
    · isplitl [Hz]; · iexact Hz
      iexact Hs
    iexact Hdone
  iexact HF

end Cert.Dispatch

end
-- ==== Proof.Body.lean ====
/-
The body of the kernel run at a symbolic device `c`, for any float values: from the protocol's ghost state and the staged
operands to the result `outV m c` in the output's staging buffer, every semaphore of the protocol back at zero.
-/
module

public import proofs.«01_k».proof.Proof.Steps

@[expose] public section

noncomputable section

namespace Cert.Dispatch

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

/-- A buffer of device `c` held whole at contents `f`. -/
abbrev pts (c : Dev nD) (b : Ref sig .tc) (f : Buf (Elt F) ((c : Thread nD τ).loc b)) : sProp 𝕄 := ((c : Thread nD τ).loc b) ↦{fullShare} f

/-- The two transfer semaphores that the kernel allocates and never uses. -/
def spare (c : Dev nD) : sProp 𝕄 := iprop(semVal ((c : Thread nD τ), .dma (4 : Fin 68)) 0 ∗ semVal ((c : Thread nD τ), .dma (36 : Fin 68)) 0)

/-- The tokens of the duties that device `c` pays. -/
def payToks (c : Dev nD) : sProp 𝕄 :=
  iprop((bigSep Finset.univ fun r : Fin 31 => dutyTok ER (barCell (peer c r)) 0 (opp r))
    ∗ (bigSep Finset.univ fun r : Fin 31 => dutyTok ER (sendCell c r) 0 0)
    ∗ bigSep Finset.univ fun r : Fin 31 => dutyTok ER (recvCell (peer c r) r) 0 0)
/-- Its positions at round 0 of its own cells. -/
def positions (c : Dev nD) : sProp 𝕄 :=
  iprop(atPos ER (barCell c) 0 ∅ 0 ∗ (bigSep Finset.univ fun r : Fin 31 => atPos ER (sendCell c r) 0 ∅ 0)
    ∗ bigSep Finset.univ fun r : Fin 31 => atPos ER (recvCell c r) 0 ∅ 0)
/-- The credits it waits with. -/
def credits (c : Dev nD) : sProp 𝕄 :=
  iprop(cred (tallyAt (barCell c) () 31) ∗ bigSep Finset.univ fun r : Fin 31 => cred (tallyAt (recvCell c r) () N))
/-- The counters of its own cells back at zero. -/
def zeros (c : Dev nD) : sProp 𝕄 :=
  iprop(semVal (barCell c) 0 ∗ (bigSep Finset.univ fun r : Fin 31 => semVal (sendCell c r) 0) ∗ bigSep Finset.univ fun r : Fin 31 => semVal (recvCell c r) 0)

/-- What device `c`'s run starts from besides its staged operands; -/
def Φ₀ (c : Dev nD) : sProp 𝕄 :=
  iprop((∃ K, records m K) ∗ positions c ∗ payToks c ∗ credits c ∗ levAts L lv ∗ spare c
    ∗ (∃ f, pts c cc0_scratch0 f) ∗ ∃ f, pts c cc0_scratch1 f)
/-- and ends with. -/
def Φ₁ (c : Dev nD) : sProp 𝕄 :=
  iprop(zeros c ∗ spare c ∗ pts c cc0_scratch0 (partV m c) ∗ pts c cc0_scratch1 (commV m c))

/-! ## The buffers in their pieces -/

/-- The device's own slot of its landing buffer, and its own rows of its partial product. -/
def ownSlot (c : Dev nD) : sProp 𝕄 := ((c : Thread nD τ).loc cc0_scratch1) ↦[slotSet 0]{fullShare} commV m c
def ownRows (c : Dev nD) : sProp 𝕄 := ((c : Thread nD τ).loc cc0_scratch0) ↦[rowSet c]{fullShare} partV m c

theorem slot_eq (c : Dev nD) (r : Fin 31) (f : (cc0_scratch1 : Ref sig .tc).ty.Contents (Elt F)) :
    (((c : Thread nD τ).loc cc0_scratch1) ↦[slotSet r.succ]{fullShare} f : sProp 𝕄) = slotPts c r f := by
  unfold slotPts; rw [slotV_set]
theorem row_eq (c : Dev nD) (r : Fin 31) :
    (((c : Thread nD τ).loc cc0_scratch0) ↦[rowSet (peer c r)]{fullShare} partV m c : sProp 𝕄) = rowPts m c r := by
  unfold rowPts; rw [rowV_set]

theorem comm_pieces (c : Dev nD) (f : (cc0_scratch1 : Ref sig .tc).ty.Contents (Elt F)) :
    pts c cc0_scratch1 f = (iprop((((c : Thread nD τ).loc cc0_scratch1) ↦[slotSet 0]{fullShare} f) ∗ bigSep Finset.univ fun r : Fin 31 => slotPts c r f) : sProp 𝕄) := by
  refine (Ring.pointsTo_blocks (ℓ := (c : Thread nD τ).loc cc0_scratch1) slotSet slots_disjoint slots_cover f).trans ?_
  rw [bigSep_succ]
  exact congrArg _ (bigSep_congr fun r _ => slot_eq c r f)
theorem part_pieces (c : Dev nD) :
    pts c cc0_scratch0 (partV m c) = (iprop(ownRows m c ∗ bigSep Finset.univ fun r : Fin 31 => rowPts m c r) : sProp 𝕄) := by
  refine (Ring.pointsTo_blocks (ℓ := (c : Thread nD τ).loc cc0_scratch0) rowSet rows_disjoint rows_cover (partV m c)).trans ?_
  rw [bigSep_univ_equiv (shift c), bigSep_succ, shift_zero]
  exact congrArg _ (bigSep_congr fun r _ => by rw [shift_succ]; exact row_eq m c r)

/-- After the kernel's own store the landing buffer is the own slot, filled, and the 31 slots to hand over. -/
theorem comm_split (c : Dev nD) (f : (cc0_scratch1 : Ref sig .tc).ty.Contents (Elt F)) :
    pts c cc0_scratch1 (((commM : Memref sig .tc .vmem S32x32x512 .f32).access rSlot0 : View sig .tc _ _ _).write (Elt F) f
        (k0_pay14 ((partM : Memref sig .tc .vmem S1024x512 .f32).view.readAt (Elt F) (rOwn c).toLoadRect (partV m c))) Finset.univ)
      ⊢ (iprop(ownSlot m c ∗ bigSep Finset.univ fun r : Fin 31 => iprop(∃ f, slotPts c (opp r) f)) : sProp 𝕄) := by
  rw [comm_pieces, pointsTo_congr (own_slot m c f)]
  generalize ((commM : Memref sig .tc .vmem S32x32x512 .f32).access rSlot0 : View sig .tc _ _ _).write (Elt F) f _ Finset.univ = g
  refine sep_mono_right ?_
  rw [bigSep_univ_equiv flip]
  exact bigSep_mono fun r _ => show (slotPts c (opp r) g : sProp 𝕄) ⊢ iprop(∃ f, slotPts c (opp r) f) by iintro H; iexists g; iexact H
theorem comm_join (c : Dev nD) :
    (iprop(ownSlot m c ∗ bigSep Finset.univ fun r : Fin 31 => slotPts c r (commV m c)) : sProp 𝕄) ⊢ pts c cc0_scratch1 (commV m c) :=
  Entails.of_eq (comm_pieces c (commV m c)).symm

/-! ## Into and out of the phases -/

/-- A phase is entered through an entailment proved afterwards. -/
theorem cut {Δ A B : sProp 𝕄} (h₁ : Entails' Δ A) (h₂ : A ⊢ B) : Entails' Δ B := BI.Entails.trans h₁ h₂

theorem sig_enter (c : Dev nD) :
    iprop((∃ W, owes (c : Thread nD τ) (O₀ c) W) ∗ (bigSep Finset.univ fun r : Fin 31 => dutyTok ER (barCell (peer c r)) 0 (opp r))
        ∗ bigSep Finset.univ fun r : Fin 31 => iprop(∃ f, slotPts (F := F) c (opp r) f)) ⊢ SigSt (F := F) c 0 := by
  unfold SigSt O₀
  rw [Ring.rangeSet_univ, bigSep_sep']
theorem send_enter (c : Dev nD) :
    iprop((∃ W, owes (c : Thread nD τ) (sendO c 0) W) ∗ (bigSep Finset.univ fun r : Fin 31 => dutyTok ER (sendCell c r) 0 0)
        ∗ (bigSep Finset.univ fun r : Fin 31 => dutyTok ER (recvCell (peer c r) r) 0 0)
        ∗ (bigSep Finset.univ (barPay (F := F) c)) ∗ bigSep Finset.univ fun r : Fin 31 => rowPts m c r) ⊢ SendSt m c 0 := by
  unfold SendSt
  rw [Ring.rangeSet_univ, Ring.bigSep_rangeSet_empty le_rfl, bigSep_sep', bigSep_sep', bigSep_sep']
  iintro ⟨H1, H2⟩
  isplitl [H1]; · iexact H1
  isplitl [H2]; · iexact H2
  iempintro
theorem send_leave (c : Dev nD) : SendSt m c 31 ⊢ iprop((∃ W, owes (c : Thread nD τ) 0 W) ∗ bigSep Finset.univ fun r : Fin 31 => cred (tallyAt (sendCell c r) () N)) := by
  unfold SendSt
  rw [Ring.rangeSet_univ, sendO_done]
  iintro ⟨H1, -, H2⟩
  isplitl [H1] <;> iassumption
theorem recv_enter (c : Dev nD) :
    iprop((∃ W, owes (c : Thread nD τ) 0 W) ∗ (bigSep Finset.univ fun r : Fin 31 => cred (tallyAt (recvCell c r) () N))
        ∗ bigSep Finset.univ fun r : Fin 31 => atPos ER (recvCell c r) 0 ∅ 0) ⊢ RecvSt m c 0 := by
  unfold RecvSt
  rw [Ring.rangeSet_univ, Ring.bigSep_rangeSet_empty le_rfl, bigSep_sep']
  iintro ⟨H1, H2⟩
  isplitl [H1]; · iexact H1
  isplitl [H2]; · iexact H2
  iempintro
theorem recv_leave (c : Dev nD) : RecvSt m c 31 ⊢ iprop((∃ W, owes (c : Thread nD τ) 0 W) ∗ (bigSep Finset.univ fun r : Fin 31 => semVal (recvCell c r) 0)
    ∗ bigSep Finset.univ fun r : Fin 31 => slotPts c r (commV m c)) := by
  unfold RecvSt
  rw [Ring.rangeSet_univ, bigSep_sep' Finset.univ (fun r : Fin 31 => (semVal (recvCell c r) 0 : sProp 𝕄))]
  iintro ⟨H1, -, H2⟩
  isplitl [H1] <;> iassumption
theorem done_enter (c : Dev nD) :
    iprop((∃ W, owes (c : Thread nD τ) 0 W) ∗ (bigSep Finset.univ fun r : Fin 31 => cred (tallyAt (sendCell c r) () N))
        ∗ bigSep Finset.univ fun r : Fin 31 => atPos ER (sendCell c r) 0 ∅ 0) ⊢ DoneSt m c 0 := by
  unfold DoneSt
  rw [Ring.rangeSet_univ, Ring.bigSep_rangeSet_empty le_rfl, bigSep_sep']
  iintro ⟨H1, H2⟩
  isplitl [H1]; · iexact H1
  isplitl [H2]; · iexact H2
  iempintro
theorem done_leave (c : Dev nD) : DoneSt m c 31 ⊢ iprop((∃ W, owes (c : Thread nD τ) 0 W) ∗ (bigSep Finset.univ fun r : Fin 31 => semVal (sendCell c r) 0)
    ∗ bigSep Finset.univ fun r : Fin 31 => rowPts m c r) := by
  unfold DoneSt
  rw [Ring.rangeSet_univ, bigSep_sep' Finset.univ (fun r : Fin 31 => (semVal (sendCell c r) 0 : sProp 𝕄))]
  iintro ⟨H1, -, H2⟩
  isplitl [H1] <;> iassumption

/-! ## What the loads and stores read and write -/

theorem z2 : (![0, 0] : Fin 2 → ℕ) = fun _ => 0 := funext fun a => by fin_cases a <;> rfl
theorem z3 : (![0, 0, 0] : Fin 3 → ℕ) = fun _ => 0 := funext fun a => by fin_cases a <;> rfl

theorem read_i (f : (cc0_stg1_0 : Ref sig .tc).ty.Contents (Elt F)) :
    (iM : Memref sig .tc .vmem S1024x1 .i32).view.readAt (Elt F) (Rect.unit (s := S1024x1) ![0, 0] S1024x1.size inb_S1024x1_S1024x1_0_0).toLoadRect f = f :=
  Memref.readAt_unit_zero (Elt F) cc0_stg1_0 z2 _ f
theorem read_x (f : (cc0_stg0_0 : Ref sig .tc).ty.Contents (Elt F)) :
    (xM : Memref sig .tc .vmem S1024x256 .f32).view.readAt (Elt F) (Rect.unit (s := S1024x256) ![0, 0] S1024x256.size inb_S1024x256_S1024x256_0_0).toLoadRect f = f :=
  Memref.readAt_unit_zero (Elt F) cc0_stg0_0 z2 _ f
theorem read_comm (f : (cc0_scratch1 : Ref sig .tc).ty.Contents (Elt F)) :
    (commM : Memref sig .tc .vmem S32x32x512 .f32).view.readAt (Elt F) (Rect.unit (s := S32x32x512) ![0, 0, 0] S32x32x512.size inb_S32x32x512_S32x32x512_0_0_0).toLoadRect f = f :=
  Memref.readAt_unit_zero (Elt F) cc0_scratch1 z3 _ f
theorem read_w (f : (cc0_stg2_0 : Ref sig .tc).ty.Contents (Elt F)) (e : Fin 4) (h) :
    (wM : Memref sig .tc .vmem S4x256x512 .f32).view.readAt (Elt F) (Rect.unit (s := S4x256x512) ![e.val, 0, 0] S1x256x512.size h).toLoadRect f = expertOf f e := rfl
theorem write_part (f w : (cc0_scratch0 : Ref sig .tc).ty.Contents (Elt F)) :
    ((partM : Memref sig .tc .vmem S1024x512 .f32).access (Rect.unit (s := S1024x512) ![0, 0] S1024x512.size inb_S1024x512_S1024x512_0_0) : View sig .tc _ _ _).write (Elt F) f w Finset.univ = w :=
  Memref.write_access_unit_zero_univ (Elt F) cc0_scratch0 z2 _ f w
theorem write_out (f w : (cc0_stg3_0 : Ref sig .tc).ty.Contents (Elt F)) :
    ((oM : Memref sig .tc .vmem S32x512 .f32).access (Rect.unit (s := S32x512) ![0, 0] S32x512.size inb_S32x512_S32x512_0_0) : View sig .tc _ _ _).write (Elt F) f w Finset.univ = w :=
  Memref.write_access_unit_zero_univ (Elt F) cc0_stg3_0 z2 _ f w

/-- The four loads of the experts' matrices, as the kernel spells them. -/
theorem read_w0 (f : (cc0_stg2_0 : Ref sig .tc).ty.Contents (Elt F)) :
    (wM : Memref sig .tc .vmem S4x256x512 .f32).view.readAt (Elt F) (Rect.unit (s := S4x256x512) ![0, 0, 0] S1x256x512.size inb_S4x256x512_S1x256x512_0_0_0).toLoadRect f = expertOf f 0 := rfl
theorem read_w1 (f : (cc0_stg2_0 : Ref sig .tc).ty.Contents (Elt F)) :
    (wM : Memref sig .tc .vmem S4x256x512 .f32).view.readAt (Elt F) (Rect.unit (s := S4x256x512) ![1, 0, 0] S1x256x512.size inb_S4x256x512_S1x256x512_1_0_0).toLoadRect f = expertOf f 1 := rfl
theorem read_w2 (f : (cc0_stg2_0 : Ref sig .tc).ty.Contents (Elt F)) :
    (wM : Memref sig .tc .vmem S4x256x512 .f32).view.readAt (Elt F) (Rect.unit (s := S4x256x512) ![2, 0, 0] S1x256x512.size inb_S4x256x512_S1x256x512_2_0_0).toLoadRect f = expertOf f 2 := rfl
theorem read_w3 (f : (cc0_stg2_0 : Ref sig .tc).ty.Contents (Elt F)) :
    (wM : Memref sig .tc .vmem S4x256x512 .f32).view.readAt (Elt F) (Rect.unit (s := S4x256x512) ![3, 0, 0] S1x256x512.size inb_S4x256x512_S1x256x512_3_0_0).toLoadRect f = expertOf f 3 := rfl

/-- What the kernel stores into its partial product's buffer. -/
theorem part_eq (c : Dev nD) :
    k0_pay13 (k0_pay9 (k0_pay2 (iV m c)) (k0_pay3 (iV m c)) (k0_pay4 c (iV m c)) (k0_pay5 c (iV m c)) (iota .tc S1024x32 32 [1] iota_S1024x32_d1_w32) k0_pay6 k0_pay7 k0_pay8)
      (k0_pay10 (k0_pay2 (iV m c)) (k0_pay3 (iV m c)) (k0_pay4 c (iV m c)) (k0_pay5 c (iV m c)) (iota .tc S1024x32 32 [1] iota_S1024x32_d1_w32) k0_pay6 k0_pay7 k0_pay8 (xV m c))
      (k0_pay11 (k0_pay2 (iV m c)) (k0_pay3 (iV m c)) (k0_pay4 c (iV m c)) (k0_pay5 c (iV m c)) (iota .tc S1024x32 32 [1] iota_S1024x32_d1_w32) k0_pay6 k0_pay7 k0_pay8 (xV m c))
      (k0_pay12 (expertOf (wV m c) 0)) (expertOf (wV m c) 1) (expertOf (wV m c) 2) (expertOf (wV m c) 3) = partV m c := rfl

abbrev rPart : Rect S1024x512 := Rect.unit (s := S1024x512) ![0, 0] S1024x512.size inb_S1024x512_S1024x512_0_0
abbrev rOut : Rect S32x512 := Rect.unit (s := S32x512) ![0, 0] S32x512.size inb_S32x512_S32x512_0_0

/-! ## The run -/

/-- What the body leaves. -/
def finish (c : Dev nD) : sProp (MT nD τ sig Unit (Elt F) ℕ UU ℕ) :=
  iprop(Φ₁ m c ∗ (∃ W, owes (c : Thread nD τ) 0 W) ∗ pts c cc0_stg0_0 (xV m c) ∗ pts c cc0_stg1_0 (iV m c) ∗ pts c cc0_stg2_0 (wV m c)
    ∗ pts c cc0_stg3_0 (outV m c))

/-- What device `c` holds aside throughout: its staged operands and result buffer, its unused semaphores, and what is to
    follow. -/
def aside (c : Dev nD) (X : sProp (MT nD τ sig Unit (Elt F) ℕ UU ℕ)) : sProp (MT nD τ sig Unit (Elt F) ℕ UU ℕ) :=
  iprop(spare c ∗ pts c cc0_stg0_0 (xV m c) ∗ pts c cc0_stg1_0 (iV m c) ∗ pts c cc0_stg2_0 (wV m c) ∗ X)

set_option maxRecDepth 8192 in
set_option maxHeartbeats 3200000 in
/-- The body, executed from the protocol's start to its end. -/
theorem sound_body (c : Dev nD) (Kt : PUnit → sProp 𝕄) :
    iprop(Φ₀ m c ∗ (∃ W, owes (c : Thread nD τ) (O₀ c) W) ∗ pts c cc0_stg0_0 (xV m c) ∗ pts c cc0_stg1_0 (iV m c) ∗ pts c cc0_stg2_0 (wV m c)
        ∗ (∃ f, pts c cc0_stg3_0 f)
        ∗ (finish m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton,
    k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel,
    semSignalWord, semWaitWord, Prog.lift, Prog.bind_op, Prog.bind_ret, Prog.pure_eq_ret, wp_deviceId]
  simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]
  unfold Φ₀ positions payToks credits
  iintro ⟨⟨⟨%K, #HR⟩, ⟨HaB, HaS, HaV⟩, ⟨HtB, HtS, HtV⟩, ⟨HcB, HcV⟩, #Hlev, Hsp, ⟨%fp, Hp⟩, ⟨%fc, Hc⟩⟩, HO, Hx, Hi, Hw, ⟨%fo, Ho⟩, Hk⟩
  -- the computation: the partial product into its buffer, the own rows into slot 0
  iapply (wp_load 𝒱₀ (c : Thread nD τ) none Set.univ (m := iM) (Finset.subset_univ _)) $$ Hi; iintro Hi
  rw [read_i]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := partM) (Finset.subset_univ _)) $$ Hp; iintro Hp
  iapply (wp_store 𝒱₀ (c : Thread nD τ) none Set.univ (m := partM) (r := rPart) (Mk := Finset.univ) (Finset.subset_univ _)) $$ Hp; iintro Hp
  rw [write_part, read_w0, read_w1, read_w2, read_w3, part_eq]
  iapply (wp_load 𝒱₀ (c : Thread nD τ) none Set.univ (m := partM) (Finset.subset_univ _)) $$ Hp; iintro Hp
  iapply (wp_load 𝒱₀ (c : Thread nD τ) none Set.univ (m := commM) (Finset.subset_univ _)) $$ Hc; iintro Hc
  iapply (wp_store 𝒱₀ (c : Thread nD τ) none Set.univ (m := commM) (r := rSlot0) (Mk := Finset.univ) (Finset.subset_univ _)) $$ Hc; iintro Hc
  ihave Hc2 := (comm_split m c fc) $$ Hc
  icases Hc2 with ⟨Hown, Hslots⟩
  -- the 31 signals
  refine cut (A := iprop(records m K ∗ SigSt c 0 ∗ atPos ER (barCell c) 0 ∅ 0 ∗ cred (tallyAt (barCell c) () 31) ∗ levAts L lv
    ∗ (bigSep Finset.univ fun r : Fin 31 => atPos ER (sendCell c r) 0 ∅ 0) ∗ (bigSep Finset.univ fun r : Fin 31 => atPos ER (recvCell c r) 0 ∅ 0)
    ∗ (bigSep Finset.univ fun r : Fin 31 => dutyTok ER (sendCell c r) 0 0) ∗ (bigSep Finset.univ fun r : Fin 31 => dutyTok ER (recvCell (peer c r) r) 0 0)
    ∗ (bigSep Finset.univ fun r : Fin 31 => cred (tallyAt (recvCell c r) () N)) ∗ pts c cc0_scratch0 (partV m c) ∗ ownSlot m c
    ∗ aside m c iprop(pts c cc0_stg3_0 fo ∗ (finish m c -∗ Kt ⟨⟩)))) ?enter ?signals
  case enter =>
    unfold aside
    isplitr; · iexact HR
    isplitl [HO HtB Hslots]
    · iapply (sig_enter c)
      isplitl [HO]; · iexact HO
      isplitl [HtB] <;> iassumption
    isplitl [HaB]; · iexact HaB
    isplitl [HcB]; · iexact HcB
    isplitr; · iexact Hlev
    isplitl [HaS]; · iexact HaS
    isplitl [HaV]; · iexact HaV
    isplitl [HtS]; · iexact HtS
    isplitl [HtV]; · iexact HtV
    isplitl [HcV]; · iexact HcV
    isplitl [Hp]; · iexact Hp
    isplitl [Hown]; · iexact Hown
    isplitl [Hsp]; · iexact Hsp
    isplitl [Hx]; · iexact Hx
    isplitl [Hi]; · iexact Hi
    isplitl [Hw]; · iexact Hw
    isplitl [Ho] <;> iassumption
  iterate 31 refine sig_step m K c _ (by decide) _ rfl ?_
  iintro ⟨#HR, Hst, HaB, HcB, #Hlev, HaS, HaV, HtS, HtV, HcV, Hp, Hown, Has⟩
  unfold SigSt
  rw [show (0 + 1 + 1 + 1 + 1 + 1 + 1 + 1 + 1 + 1 + 1 + 1 + 1 + 1 + 1 + 1 + 1 + 1 + 1 + 1 + 1 + 1 + 1 + 1 + 1 + 1 + 1 + 1 + 1 + 1 + 1 + 1 : ℕ) = 31 from rfl, sigO_done, add_zero]
  icases Hst with ⟨⟨%W, HO⟩, -⟩
  -- the barrier: every peer's landing slot
  iapply (Rounds.wp_wait_rest_token 𝒱₀ ER (sched m) (c : Thread nD τ) none (κ := K (kBar c))
      (wpE_semWait_eq 𝒱₀ (c : Thread nD τ) none Set.univ) (Set.mem_univ _) () (O := sendO c 0) (W := W) (R := 0) (m := 0) (T := ∅)
      (by rw [expect_bar]; decide)) $$ [HcB HO HaB]
  · isplitr; · iapply (inv_of m K (kBar c)); iexact HR
    isplitl [HcB]; · iexact HcB
    isplitl [HO]; · iexact HO
    isplitr; · iapply (mayWait_bar c); iexact Hlev
    iexact HaB
  iintro ⟨HO, HaB, -, Hpay⟩
  ihave Hpeers := (Entails.of_eq (rest_bar m c)) $$ Hpay
  imod (Rounds.cell_close ER (sched m) (Set.mem_univ (K (kBar c))) (fun h => h) (R := 0 + 1) (duties_later m (barCell c))) $$ [HaB] with HzB
  · isplitr; · iapply (inv_of m K (kBar c)); iexact HR
    iexact HaB
  ihave Hp2 := (Entails.of_eq (part_pieces m c)) $$ Hp
  icases Hp2 with ⟨Hrows, Hsrc⟩
  -- the 31 transfers
  refine cut (A := iprop(records m K ∗ SendSt m c 0 ∗ semVal (barCell c) 0
    ∗ (bigSep Finset.univ fun r : Fin 31 => atPos ER (sendCell c r) 0 ∅ 0) ∗ (bigSep Finset.univ fun r : Fin 31 => atPos ER (recvCell c r) 0 ∅ 0)
    ∗ (bigSep Finset.univ fun r : Fin 31 => cred (tallyAt (recvCell c r) () N)) ∗ ownRows m c ∗ ownSlot m c
    ∗ aside m c iprop(pts c cc0_stg3_0 fo ∗ (finish m c -∗ Kt ⟨⟩)))) ?enter ?transfers
  case enter =>
    isplitr; · iexact HR
    isplitl [HO HtS HtV Hpeers Hsrc]
    · iapply (send_enter m c)
      isplitl [HO]; · iexists _; iexact HO
      isplitl [HtS]; · iexact HtS
      isplitl [HtV]; · iexact HtV
      isplitl [Hpeers] <;> iassumption
    isplitl [HzB]; · iexact HzB
    isplitl [HaS]; · iexact HaS
    isplitl [HaV]; · iexact HaV
    isplitl [HcV]; · iexact HcV
    isplitl [Hrows]; · iexact Hrows
    isplitl [Hown] <;> iassumption
  iterate 31 (refine send_step m K c _ (by decide) _ (Fin.ext (by
    simp only [k0_dev32_eq, k0_dev33_eq, k0_dev34_eq, k0_dev35_eq, k0_dev36_eq, k0_dev37_eq, k0_dev38_eq, k0_dev39_eq, k0_dev40_eq, k0_dev41_eq,
      k0_dev42_eq, k0_dev43_eq, k0_dev44_eq, k0_dev45_eq, k0_dev46_eq, k0_dev47_eq, k0_dev48_eq, k0_dev49_eq, k0_dev50_eq, k0_dev51_eq,
      k0_dev52_eq, k0_dev53_eq, k0_dev54_eq, k0_dev55_eq, k0_dev56_eq, k0_dev57_eq, k0_dev58_eq, k0_dev59_eq, k0_dev60_eq, k0_dev61_eq,
      k0_dev62_eq]; rfl)) ?_)
  iintro ⟨#HR, Hst, HzB, HaS, HaV, HcV, Hrows, Hown, Has⟩
  ihave Hst2 := (send_leave m c) $$ Hst
  icases Hst2 with ⟨HO, HcS⟩
  -- the 31 arrivals
  refine cut (A := iprop(records m K ∗ RecvSt m c 0 ∗ semVal (barCell c) 0
    ∗ (bigSep Finset.univ fun r : Fin 31 => atPos ER (sendCell c r) 0 ∅ 0) ∗ (bigSep Finset.univ fun r : Fin 31 => cred (tallyAt (sendCell c r) () N))
    ∗ ownRows m c ∗ ownSlot m c
    ∗ aside m c iprop(pts c cc0_stg3_0 fo ∗ (finish m c -∗ Kt ⟨⟩)))) ?enter ?arrivals
  case enter =>
    isplitr; · iexact HR
    isplitl [HO HcV HaV]
    · iapply (recv_enter m c)
      isplitl [HO]; · iexact HO
      isplitl [HcV] <;> iassumption
    isplitl [HzB]; · iexact HzB
    isplitl [HaS]; · iexact HaS
    isplitl [HcS]; · iexact HcS
    isplitl [Hrows]; · iexact Hrows
    isplitl [Hown] <;> iassumption
  iterate 31 refine recv_step m K c _ (by decide) ?_
  iintro ⟨#HR, Hst, HzB, HaS, HcS, Hrows, Hown, Has⟩
  ihave Hst2 := (recv_leave m c) $$ Hst
  icases Hst2 with ⟨HO, HzV, Hslots⟩
  ihave Hc := (comm_join m c) $$ [Hown Hslots]
  · isplitl [Hown] <;> iassumption
  unfold aside
  icases Has with ⟨Hsp, Hx, Hi, Hw, Ho, Hk⟩
  -- the sum over the landing buffer's slots
  iapply (wp_load 𝒱₀ (c : Thread nD τ) none Set.univ (m := commM) (Finset.subset_univ _)) $$ Hc; iintro Hc
  rw [read_comm]
  iapply (wp_load 𝒱₀ (c : Thread nD τ) none Set.univ (m := oM) (Finset.subset_univ _)) $$ Ho; iintro Ho
  iapply (wp_store 𝒱₀ (c : Thread nD τ) none Set.univ (m := oM) (r := rOut) (Mk := Finset.univ) (Finset.subset_univ _)) $$ Ho; iintro Ho
  rw [write_out]
  -- the own transfers' completions
  refine cut (A := iprop(records m K ∗ DoneSt m c 0 ∗ semVal (barCell c) 0 ∗ (bigSep Finset.univ fun r : Fin 31 => semVal (recvCell c r) 0)
    ∗ ownRows m c ∗ pts c cc0_scratch1 (commV m c)
    ∗ aside m c iprop(pts c cc0_stg3_0 (outV m c) ∗ (finish m c -∗ Kt ⟨⟩)))) ?enter ?completions
  case enter =>
    unfold aside
    isplitr; · iexact HR
    isplitl [HO HcS HaS]
    · iapply (done_enter m c)
      isplitl [HO]; · iexact HO
      isplitl [HcS] <;> iassumption
    isplitl [HzB]; · iexact HzB
    isplitl [HzV]; · iexact HzV
    isplitl [Hrows]; · iexact Hrows
    isplitl [Hc]; · iexact Hc
    isplitl [Hsp]; · iexact Hsp
    isplitl [Hx]; · iexact Hx
    isplitl [Hi]; · iexact Hi
    isplitl [Hw]; · iexact Hw
    isplitl [Ho]; · unfold outV; iexact Ho
    iexact Hk
  iterate 31 refine done_step m K c _ (by decide) rfl ?_
  iintro ⟨-, Hst, HzB, HzV, Hrows, Hc, Has⟩
  ihave Hst2 := (done_leave m c) $$ Hst
  icases Hst2 with ⟨HO, HzS, Hsrc⟩
  ihave Hp := (Entails.of_eq (part_pieces m c).symm) $$ [Hrows Hsrc]
  · isplitl [Hrows]; · iexact Hrows
    iexact Hsrc
  unfold aside
  icases Has with ⟨Hsp, Hx, Hi, Hw, Ho, Hk⟩
  rw [wp_ret]; imodintro
  iapply Hk
  unfold finish Φ₁ zeros
  isplitl [HzB HzS HzV Hsp Hp Hc]
  · isplitl [HzB HzS HzV]
    · isplitl [HzB]; · iexact HzB
      isplitl [HzS] <;> iassumption
    isplitl [Hsp]; · iexact Hsp
    isplitl [Hp] <;> iassumption
  isplitl [HO]; · iexact HO
  isplitl [Hx]; · iexact Hx
  isplitl [Hi]; · iexact Hi
  isplitl [Hw] <;> iassumption

end Cert.Dispatch

end
-- ==== Proof.Launch.lean ====
/-
The launch: each device's run of the pipeline's one grid point from what the launch deals it. The protocol's ghost state
is minted for all cells at once; each duty's token moves from the cell's owner to the device that pays the duty; the launch
credit is the sum of what the peers owe.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.Dispatch

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data: one grid point -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => iV m c
    | ⟨2, _⟩ => wV m c
    | ⟨3, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

/-- A staging buffer at contents `X`, as the pipeline hands it over. -/
abbrev stg (c : Dev nD) (b : Ref sig .tc) (X : b.ty.Contents (Elt F)) : sProp 𝕄 :=
  iprop(∃ f : Buf (Elt F) (((c : Dev nD) : Thread nD τ).loc b), ⌜f = X⌝ ∗ pts c b f)

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ
    ∗ stg c cc0_stg0_0 (xV m c) ∗ stg c cc0_stg1_0 (iV m c) ∗ stg c cc0_stg2_0 (wV m c) ∗ stg c cc0_stg3_0 (outV m c))

theorem stg_intro (c : Dev nD) (b : Ref sig .tc) (X : b.ty.Contents (Elt F)) : (pts c b X : sProp 𝕄) ⊢ stg c b X := by
  iintro H; iexists X; isplitr
  · ipureintro; rfl
  · iexact H

theorem finish_post (c : Dev nD) : finish m c ⊢ bodyPost m ρ c := by
  unfold finish bodyPost Dat.owesAt Pipeline.owesWithin
  rw [show (dats m ρ 0 c).owed t0_0.succ = 0 from rfl]
  iintro ⟨HΦ, ⟨%W, HO⟩, Hx, Hi, Hw, Ho⟩
  isplitl [HΦ]; · iexact HΦ
  isplitl [HO]
  · iexists W
    isplitr; · ipureintro; exact fun _ _ => Or.inl trivial
    iexact HO
  isplitl [Hx]; · iapply (stg_intro c cc0_stg0_0 (xV m c)); iexact Hx
  isplitl [Hi]; · iapply (stg_intro c cc0_stg1_0 (iV m c)); iexact Hi
  isplitl [Hw]; · iapply (stg_intro c cc0_stg2_0 (wV m c)); iexact Hw
  iapply (stg_intro c cc0_stg3_0 (outV m c)); iexact Ho

set_option maxRecDepth 16000 in
/-- The grid point's obligation on device `c`. -/
theorem body_obligation (c : Dev nD) : BodyObligation (dats (F := F) m ρ 0 c) (defs₀ (F := F)) 𝒱₀ () Set.univ := fun t => by
  rw [fin_N0 t, bigSep_W0, bigSep_W0]
  simp only [owns_stg]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3) (fun _ => bodyPost m ρ c)
  unfold bodyPre Dat.owesAt Pipeline.owesWithin
  rw [show (dats m ρ 0 c).owed t0_0.castSucc = O₀ c from rfl]
  iintro ⟨HΦ, ⟨%W, -, HO⟩, ⟨%d0, %g0, %h0, Hx⟩, ⟨%d1, %g1, %h1, Hi⟩, ⟨%d2, %g2, %h2, Hw⟩, ⟨%d3, %g3, -, Ho⟩⟩
  have e0 : g0 = xV m c := by rw [h0]; unfold Dat.before; rw [if_pos (fetch_0 t0_0)]; rfl
  have e1 : g1 = iV m c := by rw [h1]; unfold Dat.before; rw [if_pos (fetch_1 t0_0)]; rfl
  have e2 : g2 = wV m c := by rw [h2]; unfold Dat.before; rw [if_pos (fetch_2 t0_0)]; rfl
  subst e0; subst e1; subst e2
  iapply (sound_body m c fun _ => bodyPost m ρ c)
  isplitl [HΦ]; · iexact HΦ
  isplitl [HO]; · iexists W; iexact HO
  isplitl [Hx]; · iexact Hx
  isplitl [Hi]; · iexact Hi
  isplitl [Hw]; · iexact Hw
  isplitl [Ho]; · iexists g3; iexact Ho
  iintro H; iapply (finish_post m ρ c); iexact H

/-! ## The cells and tokens -/

/-- The kernel's own semaphores: the two arrays' used ones, and the first of each, which is never used. -/
abbrev osem : (Fin 31 ⊕ Fin 31) ⊕ Bool → SemLoc sig
  | .inl (.inl r) => .dma (sendS r)
  | .inl (.inr r) => .dma (recvS r)
  | .inr false => .dma (4 : Fin 68)
  | .inr true => .dma (36 : Fin 68)

theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨kcell, kcell_injective⟩

/-- The duties of a device's own cells, by cell. -/
abbrev tokOf (ck : Dev nD × (Fin 31 ⊕ (Fin 31 ⊕ Fin 31))) : GSem nD τ sig × ℕ × Fin 31 := match ck.2 with
  | .inl d => (barCell ck.1, 0, d)
  | .inr k => (kcell (ck.1, .inr k), 0, 0)

theorem tokOf_injective : Function.Injective (tokOf : Dev nD × (Fin 31 ⊕ (Fin 31 ⊕ Fin 31)) → GSem nD τ sig × ℕ × Fin 31) := by
  rintro ⟨c, k⟩ ⟨c', k'⟩ h
  rcases k with d | k <;> rcases k' with d' | k'
  · have h1 : kcell (c, .inl ()) = kcell (c', .inl ()) := congrArg Prod.fst h
    have h2 : d = d' := congrArg (fun x : GSem nD τ sig × ℕ × Fin 31 => x.2.2) h
    rw [(Prod.mk.inj (kcell_injective h1)).1, h2]
  · have h1 : kcell (c, .inl ()) = kcell (c', .inr k') := congrArg Prod.fst h
    cases (Prod.mk.inj (kcell_injective h1)).2
  · have h1 : kcell (c, .inr k) = kcell (c', .inl ()) := congrArg Prod.fst h
    cases (Prod.mk.inj (kcell_injective h1)).2
  · have h1 : kcell (c, .inr k) = kcell (c', .inr k') := congrArg Prod.fst h
    obtain ⟨h2, h3⟩ := Prod.mk.inj (kcell_injective h1)
    rw [h2, Sum.inr.inj h3]
def ringToks : Finset (GSem nD τ sig × ℕ × Fin 31) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 31 => dutyTok ER (barCell c) 0 d)
    ∗ (bigSep Finset.univ fun r : Fin 31 => dutyTok ER (sendCell c r) 0 0)
    ∗ bigSep Finset.univ fun r : Fin 31 => dutyTok ER (recvCell c r) 0 0)

/-- What device `c` is dealt at first, -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)
/-- and what it has when all devices' cells are allocated. -/
def G' (c : Dev nD) : sProp 𝕄 := iprop((∃ K, records m K) ∗ positions c ∗ payToks c ∗ spare c)

theorem bigSep_cells (Φ : CK → sProp 𝕄) : bigSep Finset.univ Φ
    = iprop(Φ (.inl ()) ∗ (bigSep Finset.univ fun r : Fin 31 => Φ (.inr (.inl r))) ∗ bigSep Finset.univ fun r : Fin 31 => Φ (.inr (.inr r))) := by
  rw [bigSep_univ_sum, bigSep_univ_sum, Finset.univ_unique, bigSep_singleton]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch's semaphores at zero: the protocol's cells' and the two unused. -/
theorem unscoped_bar (c : Dev nD) : (unscopedSems0 c : sProp 𝕄) = semVal (barCell c) 0 := by
  unfold unscopedSems0; rw [bigSep_eq_bigSepL_of_eq [SemLoc.reg barS] (by decide +kernel) (by decide)]; rfl
theorem own_split (c : Dev nD) : (Pipeline.ownSems0 (Ix := Unit) (Name := ℕ) (U := UU) (Lvl := ℕ) (Val := Elt F) (τ := τ) osem c : sProp 𝕄)
    = iprop(((bigSep Finset.univ fun r : Fin 31 => semVal (sendCell c r) 0) ∗ bigSep Finset.univ fun r : Fin 31 => semVal (recvCell c r) 0) ∗ spare c) := by
  unfold Pipeline.ownSems0
  rw [bigSep_univ_sum, bigSep_univ_sum, bigSep_univ_eq_bigSepL [false, true] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c ∗ spare c) := by
  unfold G
  rw [own_split, unscoped_bar]
  iintro ⟨⟨⟨HS, HV⟩, Hsp⟩, HB, Hst, Hat, Htok⟩
  ihave Hv := (Entails.of_eq (bigSep_cells (F := F) fun k => semVal (kcell (c, k)) 0).symm) $$ [HS HV HB]
  · isplitl [HB]; · iexact HB
    isplitl [HS] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem swap {I J : Type} [Fintype I] [Fintype J] [DecidableEq I] [DecidableEq J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), ← bigSep_univ_prod (fun x : J × I => Φ x.2 x.1)]
  exact bigSep_univ_equiv (Equiv.prodComm J I) fun x : I × J => Φ x.1 x.2

/-- The tokens go to the payers: a barrier cell's duty `d` to the device `d + 1` places on, a receive cell's to the device
    whose transfer fills the slot. -/
theorem toks_around : (bigSep Finset.univ fun c : Dev nD => (toks c : sProp 𝕄)) = bigSep Finset.univ fun c : Dev nD => payToks c := by
  unfold toks payToks
  rw [bigSep_sep', bigSep_sep', bigSep_sep', bigSep_sep']
  have hbar : (bigSep Finset.univ fun c : Dev nD => bigSep Finset.univ fun d : Fin 31 => (dutyTok ER (barCell c) 0 d : sProp 𝕄))
      = bigSep Finset.univ fun c : Dev nD => bigSep Finset.univ fun r : Fin 31 => dutyTok ER (barCell (peer c r)) 0 (opp r) := by
    rw [swap, swap fun (c : Dev nD) (r : Fin 31) => (dutyTok ER (barCell (peer c r)) 0 (opp r) : sProp 𝕄),
      bigSep_univ_equiv flip]
    exact bigSep_congr fun r _ => bigSep_univ_equiv (rot r) fun c : Dev nD => (dutyTok ER (barCell c) 0 (opp r) : sProp 𝕄)
  have hrecv : (bigSep Finset.univ fun c : Dev nD => bigSep Finset.univ fun r : Fin 31 => (dutyTok ER (recvCell c r) 0 0 : sProp 𝕄))
      = bigSep Finset.univ fun c : Dev nD => bigSep Finset.univ fun r : Fin 31 => dutyTok ER (recvCell (peer c r) r) 0 0 := by
    rw [swap, swap fun (c : Dev nD) (r : Fin 31) => (dutyTok ER (recvCell (peer c r) r) 0 0 : sProp 𝕄)]
    exact bigSep_congr fun r _ => bigSep_univ_equiv (rot r) fun c : Dev nD => (dutyTok ER (recvCell c r) 0 0 : sProp 𝕄)
  rw [hbar, hrecv]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out (K : Dev nD × CK → ℕ) (c : Dev nD) : iprop(records m K ∗ positions c ∗ payToks c ∗ spare c) ⊢ G' m c := by
  unfold G'; iintro ⟨#HR, H⟩
  isplitr; · iexists K; iexact HR
  iexact H

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c ∗ spare c) : sProp 𝕄)
      ⊢ bigSep Finset.univ (G' m) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok, Hsp⟩
  ihave HK := (BI.bigSep_exists_pi Finset.univ (fun (ck : Dev nD × CK) (κ : ℕ) => (cellInv ER (sched m) κ (kcell ck) : sProp 𝕄))) $$ HI
  icases HK with ⟨%K, #HI⟩
  iapply (bigSep_with_persistent (R := records m K) fun c _ => share_out m K c)
  isplitr
  · unfold records; isplitl; · iexact HI
    iexact HR
  · rw [bigSep_sep', bigSep_sep']
    isplitl [Hat]
    · iapply (Entails.of_eq (bigSep_congr (s := Finset.univ) fun (c : Dev nD) _ =>
        show (bigSep Finset.univ fun k : CK => (atPos ER (kcell (c, k)) 0 ∅ 0 : sProp 𝕄)) = positions c from by unfold positions; rw [bigSep_cells]))
      iexact Hat
    isplitl [Htok] <;> iassumption

/-- The step from all devices' semaphores and dealt ghost state to each device's start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem units_add (g : GSem nD τ sig) : (∑ r ∈ (Finset.univ : Finset (Fin 31)), tallyAt (nD := nD) (sig := sig) g () 1) = tallyAt g () 31 := by
  funext g'; refine Finsupp.ext fun u => ?_
  rw [Finset.sum_apply, Finsupp.finset_sum_apply]
  simp only [tallyAt_apply]
  by_cases h : g' = g ∧ u = () <;> simp [h]

theorem creds (c : Dev nD) : (Pipeline.launchCred O₀ c : sProp 𝕄) ⊢ credits c := by
  have hO : (O₀ : Dev nD → CellTallies nD τ sig Unit) = fun d => (∑ r ∈ (Finset.univ : Finset (Fin 31)), tallyAt (recvCell (peer d r) r) () N)
      + ∑ r ∈ (Finset.univ : Finset (Fin 31)), tallyAt (barCell (peer d r)) () 1 := by
    funext d; unfold O₀ sendO sigO; rw [Ring.rangeSet_univ]
  rw [hO, Pipeline.launchCred_add, Pipeline.launchCred_sum, Pipeline.launchCred_sum]
  unfold credits
  iintro ⟨HV, HB⟩
  isplitl [HB]
  · rw [← units_add, Pipeline.cred_finsetSum]
    iapply (show (bigSep Finset.univ fun r : Fin 31 => (Pipeline.launchCred (fun d : Dev nD => tallyAt (barCell (peer d r)) () 1) c : sProp 𝕄)) ⊢ _ from
      bigSep_mono fun r _ => Pipeline.launchCred_tallyAt (SemLoc.reg barS) (rot r) (rot r).symm (rot r).apply_symm_apply (rot r).symm_apply_apply () 1 c)
    iexact HB
  · iapply (show (bigSep Finset.univ fun r : Fin 31 => (Pipeline.launchCred (fun d : Dev nD => tallyAt (recvCell (peer d r) r) () N) c : sProp 𝕄)) ⊢ _ from
      bigSep_mono fun r _ => Pipeline.launchCred_tallyAt (SemLoc.dma (recvS r)) (rot r) (rot r).symm (rot r).apply_symm_apply (rot r).symm_apply_apply () N c)
    iexact HV

/-! ## Into and out of the run -/

/-- What device `c` starts from besides its buffers. -/
def start (c : Dev nD) : sProp 𝕄 := iprop((∃ K, records m K) ∗ positions c ∗ payToks c ∗ credits c ∗ levAts L lv ∗ spare c)

/-- The one argument that no window stages. -/
def idle (c : Dev nD) : sProp 𝕄 := pts c main_arg1 (m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ idle m c) := by
  rw [Pipeline.unscopedRestP_none, unscopedRest0_eq]
  unfold start G' idle
  iintro ⟨Ha, Hlev, Hcr, -, HK, Hpos, Htok, Hsp⟩
  ihave Hc := (creds (F := F) c) $$ Hcr
  imodintro
  isplitr [Ha]
  · isplitl [HK]; · iexact HK
    isplitl [Hpos]; · iexact Hpos
    isplitl [Htok]; · iexact Htok
    isplitl [Hc]; · iexact Hc
    isplitl [Hlev] <;> iassumption
  · iexact Ha

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start
  iintro ⟨⟨H1, H2, H3, H4, H5, H6⟩, -, Hp, Hc⟩
  isplitl [H1]; · iexact H1
  isplitl [H2]; · iexact H2
  isplitl [H3]; · iexact H3
  isplitl [H4]; · iexact H4
  isplitl [H5]; · iexact H5
  isplitl [H6]; · iexact H6
  isplitl [Hp] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, own_split, unscoped_bar]
  unfold Φ₁ zeros
  iintro ⟨⟨HB, HS, HV⟩, Hsp, Hp, Hc⟩
  isplitl [HB]; · iexact HB
  isplitl [HS HV Hsp]
  · isplitl [HS HV]
    · isplitl [HS] <;> iassumption
    iexact Hsp
  isplitl [Hp]
  · iexists (partV m c); iexact Hp
  · iexists (commV m c); iexact Hc

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- What every final state has: each window's array at its final contents, the unstaged argument as it was. -/
def QC (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 16000 in
/-- From any memory with zero counters, at any float values, every weakly fair execution on the mesh terminates; the
    final memory is `QC`'s and every semaphore counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := idle m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold idle
      iintro ⟨Hu, Ha, HSI⟩
      icombine HSI Ha gives %h
      imod (Pipeline.unscopedSems0_read (X := unscopedSems0 c) (c := c) fupd_intro s') $$ [Hu HSI] with ⟨%hz, HSI⟩
      · isplitl [Hu] <;> iassumption
      imodintro
      isplitr; · ipureintro; exact ⟨Buf.eq_of_forall_mem_univ h, hz⟩
      iexact HSI)
    (hQ := fun _ h hs => ⟨fun c => ⟨(h c).1, (h c).2.2.1⟩, sem_eq_zero hs fun c => (h c).2.2.2⟩)

/-- An input's array ends as it began. -/
theorem finalA_in (c : Dev nD) (w : Fin cfg0.W) (hw : (cfg0.win w).isOut = false) :
    finalA m ρ c w = m ((cfg0.win w).arr.view.loc (c : Thread nD τ)) := (dats (F := F) m ρ 0 c).arrAt_in w hw _

end Cert.Dispatch

end
-- ==== Proof.Frames.lean ====
/-
What the launch says with the values dropped: the arguments end as they began, every semaphore counter at zero. The
reference keeps its arguments too, and has no counters.
-/
module

public import proofs.«01_k».proof.Proof.Launch
public import proofs.«01_k».proof.Proof.Gen.Kernel
public import proofs.«01_k».proof.Proof.Gen.ReferenceIdeal.Run
public import proofs.«01_k».proof.Defs

@[expose] public section

noncomputable section

namespace Cert.Dispatch

open Idealize.ShloMosaic Idealize.ShloMosaic.TcCoe Idealize.SL.Sem
open Cert.KernelIdeal (nD τ sig)

/-- The four argument arrays are among what the launch leaves alone. -/
theorem kept {F : FTy → Type} [FloatOps F] (m : (ℓ : Loc nD τ sig) → Buf (Elt F) ℓ) (ρ : Dev nD → PrngReg) (r) (h : QC m ρ r) (c : Dev nD) :
    r.2.mem ((c.tc : Thread nD τ).loc Cert.KernelIdeal.main_arg0) = m ((c.tc : Thread nD τ).loc Cert.KernelIdeal.main_arg0)
      ∧ r.2.mem ((c.tc : Thread nD τ).loc Cert.KernelIdeal.main_arg1) = m ((c.tc : Thread nD τ).loc Cert.KernelIdeal.main_arg1)
      ∧ r.2.mem ((c.tc : Thread nD τ).loc Cert.KernelIdeal.main_arg2) = m ((c.tc : Thread nD τ).loc Cert.KernelIdeal.main_arg2)
      ∧ r.2.mem ((c.tc : Thread nD τ).loc Cert.KernelIdeal.main_arg3) = m ((c.tc : Thread nD τ).loc Cert.KernelIdeal.main_arg3) :=
  ⟨((h c).1 0).trans (finalA_in m ρ c 0 (by decide)), (h c).2, ((h c).1 1).trans (finalA_in m ρ c 1 (by decide)),
    ((h c).1 2).trans (finalA_in m ρ c 2 (by decide))⟩

theorem frame_kernelIdeal : Cert.quiescent_KernelIdeal := fun m ρ _ =>
  (θ_run Cert.KernelIdeal.defs _ _).mono (fun r h => ⟨kept m ρ r h.1, h.2⟩) (run_main (F := Ideal) m ρ)

/-- The two programs' body tables name the same body. -/
theorem table {F : FTy → Type} [FloatOps F] : Cert.Kernel.defs₀ (F := F) = Cert.KernelIdeal.defs₀ (F := F) :=
  congrArg Defs.onTc (funext₂ fun l x => by fin_cases l; rfl)

theorem table' {F : FTy → Type} [FloatOps F] : Cert.Kernel.defs (F := F) = Cert.KernelIdeal.defs (F := F) :=
  congrArg (Pipeline.defs Cert.KernelIdeal.pcfgs) table

theorem frame_kernel : Cert.quiescent_Kernel := fun m ρ _ => by
  rw [show Cert.Kernel.defs (F := Bits) = Cert.KernelIdeal.defs (F := Bits) from table']
  exact (θ_run Cert.KernelIdeal.defs _ _).mono (fun r h => ⟨kept m ρ r h.1, h.2⟩) (run_main (F := Bits) m ρ)

/-- The reference has no semaphores: its counters are zero because there are none. -/
theorem frame_reference : Cert.quiescent_ReferenceIdeal := fun m ρ _ =>
  (θ_run Cert.ReferenceIdeal.defs _ _).mono (fun r h => ⟨fun c => (h c).2, funext fun g => by cases g with | mk t s => nomatch s⟩)
    (Cert.ReferenceIdeal.Value.run (F := Ideal) m ρ)

end Cert.Dispatch
-- ==== Proof.Dispatch.lean ====
/-
The mathematics of dispatch with capacity, without a kernel in it. Token `t` goes to expert `r t` if it is among the first
six of that expert's tokens. Device `c` owns the experts `4 c … 4 c + 3` and keeps eight places for each; a token that is
kept and whose expert is `c`'s takes exactly one place, and no place is taken twice. So gathering the tokens into the
places, multiplying each place by its expert's matrix, scattering back and adding up the 32 devices gives each kept token
its own product and every other token zero.
-/
module

public import Idealize.ShloMosaic.PureOps.Ideal.Laws

@[expose] public section

noncomputable section

namespace Cert.Dispatch

open Idealize.ShloMosaic
open scoped BigOperators

variable (r : Fin 1024 → BitVec 32)

/-- How many tokens up to `t`, itself among them, go where `t` goes. -/
def rank (t : Fin 1024) : ℕ := (Finset.univ.filter fun u : Fin 1024 => r t = r u ∧ u ≤ t).card

theorem rank_pos (t : Fin 1024) : 0 < rank r t :=
  Finset.card_pos.2 ⟨t, Finset.mem_filter.2 ⟨Finset.mem_univ t, rfl, le_rfl⟩⟩

theorem rank_le (t : Fin 1024) : rank r t ≤ 1024 :=
  (Finset.card_filter_le _ _).trans (Finset.card_univ.trans (Fintype.card_fin _)).le

theorem rank_lt {t u : Fin 1024} (h : r t = r u) (hlt : t < u) : rank r t < rank r u := by
  refine Finset.card_lt_card (Finset.ssubset_iff_of_subset ?_ |>.2 ⟨u, Finset.mem_filter.2 ⟨Finset.mem_univ _, rfl, le_rfl⟩, ?_⟩)
  · exact fun v hv => Finset.mem_filter.2 ⟨Finset.mem_univ _, h.symm.trans (Finset.mem_filter.1 hv).2.1, (Finset.mem_filter.1 hv).2.2.trans hlt.le⟩
  · exact fun hu => absurd (Finset.mem_filter.1 hu).2.2 (not_le.2 hlt)

/-- Two tokens of one expert have different ranks. -/
theorem rank_inj {t u : Fin 1024} (h : r t = r u) (hk : rank r t = rank r u) : t = u := by
  rcases lt_trichotomy t u with hlt | he | hlt
  · exact absurd hk (rank_lt r h hlt).ne
  · exact he
  · exact absurd hk (rank_lt r h.symm hlt).ne'

/-- Token `t` takes place `q` of device `c`. -/
def Takes (c : Fin 32) (t : Fin 1024) (q : Fin 32) : Prop :=
  (r t).toNat = 4 * c.val + q.val / 8 ∧ rank r t ≤ 6 ∧ rank r t = q.val % 8 + 1

instance (c : Fin 32) (t : Fin 1024) (q : Fin 32) : Decidable (Takes r c t q) := by unfold Takes; infer_instance

/-- No place is taken twice. -/
theorem Takes.unique {c : Fin 32} {t u : Fin 1024} {q : Fin 32} (ht : Takes r c t q) (hu : Takes r c u q) : u = t :=
  rank_inj r (BitVec.eq_of_toNat_eq (hu.1.trans ht.1.symm)) (hu.2.2.trans ht.2.2.symm)

/-- The expert of place `q` of device `c`. -/
def expert (c q : Fin 32) : Fin 128 := ⟨4 * c.val + q.val / 8, by have := c.isLt; have := q.isLt; omega⟩

/-- What device `c` adds to token `t`'s row, at one column of the experts' matrices `w`: its places gathered, multiplied
    and scattered back. -/
def share (x : Fin 1024 → Fin 256 → EReal) (w : Fin 128 → Fin 256 → EReal) (c : Fin 32) (t : Fin 1024) : EReal :=
  ∑ q : Fin 32, (if Takes r c t q then 1 else 0)
    * ∑ k : Fin 256, (∑ u : Fin 1024, (if Takes r c u q then 1 else 0) * x u k) * w (expert c q) k

/-- Token `t`'s entry at that column: its own product if it is kept, else zero. -/
def entry (x : Fin 1024 → Fin 256 → EReal) (w : Fin 128 → Fin 256 → EReal) (t : Fin 1024) : EReal :=
  if h : (r t).toNat < 128 ∧ rank r t ≤ 6 then ∑ k : Fin 256, x t k * w ⟨(r t).toNat, h.1⟩ k else 0

/-- A place that `t` takes holds `t`'s row. -/
theorem gathered (x : Fin 1024 → Fin 256 → EReal) {c : Fin 32} {t : Fin 1024} {q : Fin 32} (ht : Takes r c t q) (k : Fin 256) :
    ∑ u : Fin 1024, (if Takes r c u q then 1 else 0) * x u k = x t k := by
  rw [Finset.sum_eq_single t (fun u _ hu => by rw [if_neg fun h => hu (ht.unique r h), zero_mul]) (fun h => absurd (Finset.mem_univ t) h),
    if_pos ht, one_mul]

/-- The 32 devices' shares add up to the token's entry. -/
theorem sum_share (x : Fin 1024 → Fin 256 → EReal) (w : Fin 128 → Fin 256 → EReal) (t : Fin 1024) :
    ∑ c : Fin 32, share r x w c t = entry r x w t := by
  unfold share entry
  have hpos := rank_pos r t
  split
  · next h =>
    have hq : 8 * ((r t).toNat % 4) + (rank r t - 1) < 32 := by omega
    have hc : (r t).toNat / 4 < 32 := by omega
    have ht : Takes r ⟨(r t).toNat / 4, hc⟩ t ⟨8 * ((r t).toNat % 4) + (rank r t - 1), hq⟩ :=
      ⟨by dsimp only; omega, h.2, by dsimp only; omega⟩
    rw [Finset.sum_eq_single ⟨(r t).toNat / 4, hc⟩ ?_ (fun h => absurd (Finset.mem_univ _) h),
      Finset.sum_eq_single ⟨8 * ((r t).toNat % 4) + (rank r t - 1), hq⟩ ?_ (fun h => absurd (Finset.mem_univ _) h), if_pos ht, one_mul]
    · refine Finset.sum_congr rfl fun k _ => ?_
      rw [gathered r x ht]
      exact congrArg (fun e => x t k * w e k) (Fin.ext ht.1.symm)
    · intro q _ hne
      rw [if_neg, zero_mul]
      rintro ⟨h1, -, h3⟩
      refine hne (Fin.ext ?_)
      dsimp only at h1 ⊢
      omega
    · intro c _ hne
      refine Finset.sum_eq_zero fun q _ => ?_
      rw [if_neg, zero_mul]
      rintro ⟨h1, -, -⟩
      refine hne (Fin.ext ?_)
      have := q.isLt
      dsimp only
      omega
  · next h =>
    refine Finset.sum_eq_zero fun c _ => Finset.sum_eq_zero fun q _ => ?_
    rw [if_neg, zero_mul]
    rintro ⟨h1, h2, -⟩
    exact h ⟨by have := c.isLt; have := q.isLt; omega, h2⟩

end Cert.Dispatch
-- ==== Proof.Mask.lean ====
/-
One device's mask, read at an entry: `1` where the token takes the place, else `0`.
-/
module

public import proofs.«01_k».proof.Proof.Dispatch
public import proofs.«01_k».proof.Proof.Protocol
public import Idealize.ShloMosaic.Lib.Pointwise
public import Idealize.ShloMosaic.Lib.StableHlo.Predicate

@[expose] public section

noncomputable section

namespace Cert.Dispatch

open Cert.KernelIdeal Cert.KernelIdeal.Gen
open Idealize.ShloMosaic
open Idealize.ShloMosaic.ValueIdx hiding ix1 ix2 ix3
open scoped BigOperators

/-- The expert each token names, as a word. -/
def route (idx : Vec Ideal S1024x1 .i32) (t : Fin 1024) : BitVec 32 := idx (ix2 t (0 : Fin 1) : S1024x1.Idx)

variable (idx : Vec Ideal S1024x1 .i32) (c : Dev nD)

/-! ## Words -/

theorem bits_and (a b : BitVec 1) : IntOp.andi a b = 1#1 ↔ a = 1#1 ∧ b = 1#1 := by
  revert a b; decide

/-- A mask's bit as a number. -/
theorem bit_value (b : BitVec 1) : FloatOps.sitofp (F := Ideal) .f32 (b.setWidth 32) = if b = 1#1 then (1 : EReal) else 0 := by
  show (((b.setWidth 32).toInt : ℝ) : EReal) = _
  by_cases h : b = 1#1
  · rw [if_pos h, h]; norm_num
  · rw [if_neg h, eq_zero_of_ne_one h]; norm_num

/-- A sum of ones over a condition counts it. -/
theorem sum_ones {ι : Type} [DecidableEq ι] (S : Finset ι) (p : ι → Prop) [DecidablePred p] :
    ∑ u ∈ S, (if p u then (1 : EReal) else 0) = (((S.filter p).card : ℝ) : EReal) := by
  induction S using Finset.induction_on with
  | empty => simp
  | insert a S ha ih =>
    rw [Finset.sum_insert ha, ih, Finset.filter_insert]
    by_cases h : p a
    · rw [if_pos h, if_pos h, Finset.card_insert_of_notMem fun h' => ha (Finset.mem_filter.1 h').1, ← EReal.coe_one, ← EReal.coe_add]
      push_cast; rw [add_comm]
    · rw [if_neg h, if_neg h, zero_add]

theorem six_value : Ideal.ofBits .f32 0x40C00000#32 = ((6 : ℝ) : EReal) := by
  simp [Ideal.ofBits, Ideal.ieee, -EReal.coe_mul]; norm_num

/-- A small natural number, read back as a word. -/
theorem fptosi_nat (n : ℕ) (h : n < 2 ^ 31) : Ideal.fptosi 32 ((n : ℝ) : EReal) = BitVec.ofNat 32 n := by
  rw [Ideal.fptosi, Ideal.toIntClamped_coe, if_pos (Nat.cast_nonneg n), Int.floor_natCast,
    max_eq_right (by omega), min_eq_right (by omega), BitVec.ofInt_natCast]

/-! ## Ranks -/

theorem rank_sum (t : Fin 1024) : k0_pay2 (F := Ideal) idx (ix1 t) = ((rank (route idx) t : ℝ) : EReal) := by
  pointwise [k0_pay2, k0_pay1]
  refine (Finset.sum_congr rfl fun u _ => (bit_value _).trans (if_congr ?_ rfl rfl)).trans (sum_ones _ fun u => route idx t = route idx u ∧ u ≤ t)
  rw [bits_and, StableHlo.Predicate.cmpi_eq_iff]
  refine and_congr_right fun _ => ?_
  exact StableHlo.Predicate.sle_ofNat_iff _ _ (by omega) (by omega)

theorem early_apply (t : Fin 1024) : k0_pay3 (F := Ideal) idx (ix1 t) = 1#1 ↔ rank (route idx) t ≤ 6 := by
  unfold k0_pay3
  pointwise []
  rw [StableHlo.Predicate.ofBool_eq_one_iff, decide_eq_true_eq, rank_sum, six_value, EReal.coe_le_coe_iff]
  exact_mod_cast Iff.rfl

/-! ## The device's own experts -/

theorem first_expert : ∀ c : Dev nD, Scalar.muli 4#32 (Scalar.remsi (Scalar.divsi c.word 1#32) 32#32) = BitVec.ofNat 32 (4 * c.val) := by
  decide

theorem local_apply (t : Fin 1024) : k0_pay4 (F := Ideal) c idx (ix1 t) = route idx t - BitVec.ofNat 32 (4 * c.val) := by
  pointwise [k0_pay4, k0_pay1]
  rw [first_expert]; rfl

theorem mine_apply (t : Fin 1024) :
    k0_pay5 (F := Ideal) c idx (ix1 t) = 1#1 ↔ 4 * c.val ≤ (route idx t).toNat ∧ (route idx t).toNat < 4 * c.val + 4 := by
  unfold k0_pay5
  pointwise []
  have hc : c.val < 32 := c.isLt
  rw [bits_and, local_apply]
  generalize route idx t = r
  unfold IntOp.cmpi
  simp only [StableHlo.Predicate.ofBool_eq_one_iff, BitVec.sle_eq_decide, BitVec.slt_eq_decide, decide_eq_true_eq]
  have hr := r.isLt
  have h0 : (0#32).toInt = 0 := rfl
  have h4 : (4#32).toInt = 4 := rfl
  rw [h0, h4, BitVec.toInt_eq_toNat_cond, BitVec.toNat_sub, BitVec.toNat_ofNat]
  split <;> omega

/-! ## The mask -/

/-- A place's expert, as the kernel writes a division that rounds down. -/
def placeExpert (q : BitVec 32) : BitVec 32 :=
  Scalar.select
    (IntOp.andi
      (IntOp.cmpi .ne (IntOp.subi (BitVec.setWidth 32 (IntOp.cmpi .sgt q 0#32)) (BitVec.setWidth 32 (IntOp.cmpi .slt q 0#32)))
        (Scalar.subi (Scalar.extui (Scalar.cmpi .sgt 8#32 0#32)) (Scalar.extui (Scalar.cmpi .slt 8#32 0#32))))
      (IntOp.cmpi .ne (IntOp.remsi .vector q 8#32) 0#32))
    (IntOp.subi (IntOp.divsi .vector q 8#32) 1#32) (IntOp.divsi .vector q 8#32)

/-- A place's turn at its expert, as the kernel writes a remainder that is not negative. -/
def placeTurn (q : BitVec 32) : BitVec 32 :=
  let n := Scalar.select (Scalar.cmpi .eq 8#32 0#32) 1#32 8#32
  let r := IntOp.remsi .vector q n
  Scalar.select (IntOp.andi (IntOp.xori (IntOp.cmpi .slt r 0#32) (Scalar.cmpi .slt n 0#32)) (IntOp.cmpi .ne r 0#32)) (IntOp.addi r n) r

theorem placeExpert_eq : ∀ q : Fin 32, placeExpert (BitVec.ofNat 32 q.val) = BitVec.ofNat 32 (q.val / 8) := by
  decide

theorem placeTurn_eq : ∀ q : Fin 32, placeTurn (BitVec.ofNat 32 q.val) = BitVec.ofNat 32 (q.val % 8) := by
  decide

theorem mask_apply (t : Fin 1024) (q : Fin 32) :
    maskOf (F := Ideal) c idx (ix2 t q) = if Takes (route idx) c t q then 1 else 0 := by
  unfold maskOf k0_pay9 k0_pay6 k0_pay7 k0_pay8
  pointwise []
  refine (bit_value _).trans (if_congr ?_ rfl rfl)
  rw [bits_and, bits_and, bits_and, mine_apply, early_apply, StableHlo.Predicate.cmpi_eq_iff, StableHlo.Predicate.cmpi_eq_iff]
  have hr := rank_le (route idx) t
  have hp := rank_pos (route idx) t
  have hc : c.val < 32 := c.isLt
  have hq := q.isLt
  change ((_ ∧ _) ∧ placeExpert (BitVec.ofNat 32 q.val) = k0_pay4 (F := Ideal) c idx (ix1 t))
    ∧ placeTurn (BitVec.ofNat 32 q.val) = Ideal.fptosi 32 (k0_pay2 (F := Ideal) idx (ix1 t)) - 1#32 ↔ _
  rw [placeExpert_eq, placeTurn_eq, local_apply, rank_sum, fptosi_nat _ (by omega), StableHlo.Predicate.sub_one_ofNat _ hp (by omega),
    ← BitVec.toNat_inj, ← BitVec.toNat_inj, BitVec.toNat_sub, BitVec.toNat_ofNat, BitVec.toNat_ofNat, BitVec.toNat_ofNat, BitVec.toNat_ofNat]
  have hb := (route idx t).isLt
  unfold Takes
  omega

end Cert.Dispatch
-- ==== Proof.Part.lean ====
/-
One device's partial product, read at an entry: the device's share of the token's row.
-/
module

public import proofs.«01_k».proof.Proof.Mask

@[expose] public section

noncomputable section

namespace Cert.Dispatch

open Cert.KernelIdeal Cert.KernelIdeal.Gen
open Idealize.ShloMosaic
open Idealize.ShloMosaic.ValueIdx hiding ix1 ix2 ix3
open scoped BigOperators

variable (c : Dev nD) (x : Vec Ideal S1024x256 .f32) (idx : Vec Ideal S1024x1 .i32)

/-- The rows gathered at the device's places. -/
def compact : FVec Ideal S32x256 .f32 :=
  k0_pay10 (k0_pay2 idx) (k0_pay3 idx) (k0_pay4 c idx) (k0_pay5 c idx) (iota .tc S1024x32 32 [1] iota_S1024x32_d1_w32) k0_pay6 k0_pay7 k0_pay8 x

theorem compact_apply (q : Fin 32) (k : Fin 256) :
    compact c x idx (ix2 q k) = ∑ u : Fin 1024, (if Takes (route idx) c u q then 1 else 0) * x (ix2 u k) := by
  unfold compact k0_pay10
  pointwise []
  exact Finset.sum_congr rfl fun u _ => congrArg (· * x (ix2 u k)) (mask_apply idx c u q)

variable (w : (cc0_stg2_0 : Ref sig .tc).ty.Contents (Elt Ideal))

theorem expertOf_apply (e : Fin 4) (k : Fin 256) (j : Fin 512) : expertOf w e (ix3 0 k j) = w (ix3 e k j : S4x256x512.Idx) := by
  pointwise [expertOf, View.readAt]
  rfl

/-- The product of a place's gathered row with its expert's matrix. -/
theorem place_apply (e : Fin 4) (p q : Fin 32) (hp : p.val = q.val) (he : q.val / 8 = e.val) (j : Fin 512) :
    ∑ k : Fin 256, compact c x idx (ix2 p k) * expertOf w e (ix3 0 k j)
      = ∑ k : Fin 256, (∑ u : Fin 1024, (if Takes (route idx) c u q then 1 else 0) * x (ix2 u k))
          * w (ix3 (⟨q.val / 8, by omega⟩ : Fin 4) k j : S4x256x512.Idx) := by
  obtain rfl : p = q := Fin.ext hp
  obtain rfl : e = ⟨p.val / 8, by have := p.isLt; clear he; omega⟩ := Fin.ext he.symm
  exact Finset.sum_congr rfl fun k _ => congrArg₂ (· * ·) (compact_apply c x idx p k) (expertOf_apply w _ k j)

theorem partOf_apply (t : Fin 1024) (j : Fin 512) :
    partOf c x idx w (ix2 t j)
      = ∑ q : Fin 32, (if Takes (route idx) c t q then 1 else 0)
          * ∑ k : Fin 256, (∑ u : Fin 1024, (if Takes (route idx) c u q then 1 else 0) * x (ix2 u k))
              * w (ix3 (⟨q.val / 8, by omega⟩ : Fin 4) k j : S4x256x512.Idx) := by
  have h1 : partOf c x idx w = k0_pay13 (maskOf c idx) (compact c x idx) (extractStridedSlice S8x256 ![0, 0] (compact c x idx) slices_S32x256_o0_0_S8x256)
    (k0_pay12 (expertOf w 0)) (expertOf w 1) (expertOf w 2) (expertOf w 3) := rfl
  rw [h1]
  unfold k0_pay13 k0_pay12
  pointwise []
  refine Finset.sum_congr rfl fun q _ => congrArg₂ (· * ·) (mask_apply idx c t q) ?_
  have hq := q.isLt
  have P := fun e p hp he => place_apply c x idx w e p q hp he j
  by_cases h0 : q.val < 8
  · rw [dif_pos h0]; exact P 0 q rfl (Nat.div_eq_of_lt h0)
  rw [dif_neg h0]
  by_cases h1 : q.val - 8 < 8
  · rw [dif_pos h1]; exact P 1 ⟨8 + (q.val - 8), by omega⟩ (by dsimp only; omega) (by show _ = 1; omega)
  rw [dif_neg h1]
  by_cases h2 : q.val - 8 - 8 < 8
  · rw [dif_pos h2]; exact P 2 ⟨16 + (q.val - 8 - 8), by omega⟩ (by dsimp only; omega) (by show _ = 2; omega)
  rw [dif_neg h2]
  exact P 3 ⟨24 + (q.val - 8 - 8 - 8), by omega⟩ (by dsimp only; omega) (by show _ = 3; omega)

end Cert.Dispatch
-- ==== Proof.Out.lean ====
/-
What a device's result is: its 32 rows of the sum of all devices' partial products, which is the dispatched product.
-/
module

public import proofs.«01_k».proof.Proof.Part
public import proofs.«01_k».proof.Proof.Launch
public import Idealize.ShloMosaic.Lib.Pipeline.ValueKit

@[expose] public section

noncomputable section

namespace Cert.Dispatch

open Cert.KernelIdeal Cert.KernelIdeal.Gen
open Idealize.ShloMosaic Idealize.ShloMosaic.TcCoe
open Idealize.ShloMosaic.ValueIdx hiding ix1 ix2 ix3
open scoped BigOperators

variable (m : (ℓ : Loc nD τ sig) → Buf (Elt Ideal) ℓ) (ρ : Dev nD → PrngReg)

/-! ## The arrays behind the staged values -/

theorem xV_eq (c : Dev nD) : xV m c = m ((c : Thread nD τ).loc main_arg0) := by
  funext i
  unfold xV
  have h : ∀ a, win0_0.index (0 : Fin 1) a = 0 := by decide +kernel
  blk_ext [h]

theorem iV_eq (c : Dev nD) : iV m c = m ((c : Thread nD τ).loc main_arg2) := by
  funext i
  unfold iV
  have h : ∀ a, win0_1.index (0 : Fin 1) a = 0 := by decide +kernel
  blk_ext [h]

theorem wV_eq (c : Dev nD) : wV m c = m ((c : Thread nD τ).loc main_arg3) := by
  funext i
  unfold wV
  have h : ∀ a, win0_2.index (0 : Fin 1) a = 0 := by decide +kernel
  blk_ext [h]

/-- The result array ends at what the device stored. -/
theorem finalA_out (c : Dev nD) : finalA m ρ c (3 : Fin 4) = outV m c := by
  refine (dats m ρ 0 c).arrAt_eq_of_after_last (3 : Fin 4) t0_0 (by show Pipeline.Window.WholeAt win0_3 _; decide +kernel) _ fun j => ?_
  blk_simp
  rfl

/-! ## The sum over the slots -/

/-- The slots of a device hold each device's block once. -/
theorem origin_origin (c k : Fin 32) : origin c (origin c k) = k := by
  apply Fin.ext
  have := c.isLt
  have := k.isLt
  dsimp only [origin, nD] at *
  omega

/-- Device `d`'s partial product at row `t`, column `j`. -/
def partAt (d : Dev nD) (t : Fin 1024) (j : Fin 512) : EReal := partV m d (ix2 t j : S1024x512.Idx)

/-- Device `c`'s result at its row `i`, column `j`. -/
def outAt (c : Dev nD) (i : Fin 32) (j : Fin 512) : EReal := outV m c (ix2 i j : S32x512.Idx)

theorem outAt_eq (c : Dev nD) (i : Fin 32) (j : Fin 512) : outAt m c i j = ∑ d : Fin 32, partAt m d (ownRow c i) j := by
  refine Eq.trans ?_ (Equiv.sum_comp (Function.Involutive.toPerm (origin c) (origin_origin c)) fun d => partAt m d (ownRow c i) j)
  unfold outAt outV k0_pay15
  pointwise []
  refine Finset.sum_congr rfl fun k _ => ?_
  unfold partAt
  rw [ix2_eq_valueIdx]
  rfl

end Cert.Dispatch
-- ==== Proof.RefValue.lean ====
/-
The reference, read at an entry: token `t`'s row of the result is its own product with its expert's matrix if it is among
the first six of that expert's tokens, else zero.
-/
module

public import proofs.«01_k».proof.Proof.Dispatch
public import proofs.«01_k».proof.Proof.Gen.ReferenceIdeal.Read
public import Idealize.ShloMosaic.Lib.Routing.OpsOne

@[expose] public section

noncomputable section

namespace Cert.Dispatch.Ref

open Cert.ReferenceIdeal Cert.ReferenceIdeal.Gen Cert.ReferenceIdeal.Read
open Idealize.ShloMosaic Idealize.ShloMosaic.ValueIdx
open scoped BigOperators

/-- The expert each token names, as a word. -/
def route (idx : (⟨S1024x1, .i32⟩ : BufTy).Contents (Elt Ideal)) (t : Fin 1024) : BitVec 32 := idx (ix2 t (0 : Fin 1) : S1024x1.Idx)

/-! ## Counts -/

/-- A running sum of ones is the number of the ones. -/
theorem sum_upto {N : ℕ} (p : Fin N → Prop) [DecidablePred p] (t : Fin N) :
    ((List.range (t.val + 1)).map fun i => if h : i < N then (if p ⟨i, h⟩ then 1 else 0) else 0).sum
      = (Finset.univ.filter fun u : Fin N => p u ∧ u ≤ t).card := by
  have hL : ∀ (f : ℕ → ℕ) (n : ℕ), ((List.range n).map f).sum = ∑ i ∈ Finset.range n, f i := fun f n => by
    induction n with
    | zero => rfl
    | succ n ih => rw [List.range_succ, List.map_append, List.sum_append, ih, Finset.sum_range_succ, List.map_singleton, List.sum_singleton]
  rw [hL, Finset.card_filter]
  have hF : ∀ u : Fin N, (if p u ∧ u ≤ t then 1 else 0)
      = (fun i : ℕ => if i ≤ t.val then (if h : i < N then (if p ⟨i, h⟩ then 1 else 0) else 0) else 0) u.val := fun u => by
    dsimp only
    rw [dif_pos u.isLt]
    by_cases h : u ≤ t
    · rw [if_pos (show u.val ≤ t.val from h)]; exact if_congr (and_iff_left h) rfl rfl
    · rw [if_neg (show ¬u.val ≤ t.val from h), if_neg fun h' => h h'.2]
  rw [Finset.sum_congr rfl fun u _ => hF u, Fin.sum_univ_eq_sum_range (fun i : ℕ => if i ≤ t.val then (if h : i < N then (if p ⟨i, h⟩ then 1 else 0) else 0) else 0)]
  rw [← Finset.sum_subset (Finset.range_subset_range.2 (Nat.succ_le_of_lt t.isLt)) fun i _ hi => if_neg fun h => hi (Finset.mem_range.2 (Nat.lt_succ_of_le h))]
  exact Finset.sum_congr rfl fun i hi => (if_pos (Nat.le_of_lt_succ (Finset.mem_range.1 hi))).symm

variable (x : (⟨S1024x256, .f32⟩ : BufTy).Contents (Elt Ideal)) (idx : (⟨S1024x1, .i32⟩ : BufTy).Contents (Elt Ideal))
  (w : (⟨S128x256x512, .f32⟩ : BufTy).Contents (Elt Ideal))

theorem v0_apply (i : S1024.Idx) : val_main_v0 (F := Ideal) idx i = route idx (i 0) := by
  rw [val_main_v0_apply]
  refine congrArg idx (funext fun a => Fin.ext ?_)
  match a with
  | ⟨0, _⟩ => exact Nat.div_one _
  | ⟨1, _⟩ => rfl

/-- Column `e` of token `t`'s one-hot row. -/
theorem hot_apply (t : Fin 1024) (e : Fin 128) :
    val_main_call0_v4 (F := Ideal) idx (ix2 t e) = IntOp.cmpi .eq (route idx t) (BitVec.ofNat 32 e.val) := by
  rw [val_main_call0_v4_apply, val_main_call0_v2_apply, val_main_call0_v0_apply, v0_apply, val_main_call0_v3_apply, val_main_call0_v1_apply]
  rfl

/-- The one-hot column of `e` counted up to token `t`. -/
theorem sums_apply (t : Fin 1024) (e : Fin 128) :
    val_main_v2 (F := Ideal) idx (ix2 t e)
      = BitVec.ofNat 32 (Finset.univ.filter fun u : Fin 1024 => route idx u = BitVec.ofNat 32 e.val ∧ u ≤ t).card := by
  unfold val_main_v2
  rw [Routing.cumsum_rows rfl (val_main_v1 (F := Ideal) idx)
    (fun i e' => if h : i < 1024 then (if route idx ⟨i, h⟩ = BitVec.ofNat 32 e' then 1 else 0) else 0) (fun i e' => ?_)
    (val_main_call1_call0_v0 (F := Ideal)) (by rw [val_main_call1_call0_v0_apply]; rfl) reduceWindows_S1024x128_S1024x128_w1024s1p1023_0_w1s1p0_0 h_S_ t e]
  · exact congrArg _ (sum_upto (fun u => route idx u = BitVec.ofNat 32 e.val) t)
  · rw [val_main_v1_apply, hot_apply, dif_pos i.isLt]
    by_cases h : route idx i = BitVec.ofNat 32 e'.val
    · rw [if_pos h, h]; unfold IntOp.cmpi; simp
    · rw [if_neg h]; rw [eq_zero_of_ne_one fun h' => h (StableHlo.Predicate.cmpi_eq_iff.1 h')]; rfl

/-- Two masks multiplied as words are their conjunction, widened. -/
theorem bits_mul (a b : BitVec 1) : IntOp.muli (a.setWidth 32) (b.setWidth 32) = (a &&& b).setWidth 32 := by
  revert a b; decide

theorem bits_and (a b : BitVec 1) : a &&& b = 1#1 ↔ a = 1#1 ∧ b = 1#1 := by
  revert a b; decide

/-- Whether token `t` names expert `q` and is among the first six to do so. -/
theorem mask_apply (t : Fin 1024) (q : Fin 128) :
    (val_main_call0_v4 (F := Ideal) idx (ix2 t q) &&& val_main_v4 (F := Ideal) idx (ix2 t q)) = 1#1
      ↔ q.val = (route idx t).toNat ∧ rank (route idx) t ≤ 6 := by
  have hq := q.isLt
  rw [bits_and, hot_apply, StableHlo.Predicate.cmpi_eq_iff, val_main_v4_apply, sums_apply, val_main_v3_apply, val_main_c_apply]
  have e1 : route idx t = BitVec.ofNat 32 q.val ↔ q.val = (route idx t).toNat := by
    constructor
    · intro h; rw [h, BitVec.toNat_ofNat]; omega
    · intro h; rw [h, BitVec.ofNat_toNat, BitVec.setWidth_eq]
  rw [e1]
  refine and_congr_right fun h => ?_
  have hc : (Finset.univ.filter fun u : Fin 1024 => route idx u = BitVec.ofNat 32 q.val ∧ u ≤ t).card = rank (route idx) t :=
    congrArg Finset.card (Finset.filter_congr fun u _ => and_congr_left fun _ => by rw [e1.2 h]; exact eq_comm)
  have hr := rank_le (route idx) t
  rw [hc]
  exact StableHlo.Predicate.sle_ofNat_iff _ 6 (by omega) (by omega)

/-- Whether token `t` is dispatched at all. -/
theorem keep_apply (t : Fin 1024) :
    val_main_v9 (F := Ideal) idx (ix1 t) = 1#1 ↔ (route idx t).toNat < 128 ∧ rank (route idx) t ≤ 6 := by
  rw [val_main_v9_apply, val_main_v8_apply, val_main_c_1_apply]
  have h6 : val_main_v6 (F := Ideal) idx
      = extui 32 (fun i => val_main_call0_v4 (F := Ideal) idx i &&& val_main_v4 (F := Ideal) idx i) natLt_1_32 :=
    funext fun i => bits_mul _ _
  have h7 := Routing.reduce_count (by decide) (fun i => val_main_call0_v4 (F := Ideal) idx i &&& val_main_v4 (F := Ideal) idx i) natLt_1_32
    reducesTo_S1024x128_S1024_d1 h_S_ t (fun q => q = (route idx t).toNat ∧ rank (route idx) t ≤ 6) (mask_apply idx t)
  unfold val_main_v7 val_main_c_0
  rw [h6, show Host.reduce IntOp.addi _ _ _ _ (ix1 t) = _ from h7]
  have hb : Nat.count (fun q => q = (route idx t).toNat ∧ rank (route idx) t ≤ 6) 128 ≤ 128 := Nat.count_le _
  refine (StableHlo.Predicate.slt_ofNat_iff 0 _ (by omega) (by omega)).trans ?_
  rw [← Routing.card_filter_fin 128 fun q => q = (route idx t).toNat ∧ rank (route idx) t ≤ 6, Finset.card_pos]
  constructor
  · rintro ⟨q, hq⟩
    have hq := (Finset.mem_filter.1 hq).2
    exact ⟨hq.1 ▸ q.isLt, hq.2⟩
  · intro h
    exact ⟨⟨_, h.1⟩, Finset.mem_filter.2 ⟨Finset.mem_univ _, rfl, h.2⟩⟩

/-! ## The matrix a token reads -/

/-- The row number a gather starts at: an expert's number is not negative, so it is taken as it is. -/
theorem start_apply (t : Fin 1024) (h : (route idx t).toNat < 128) (i : S1024x1.Idx) (hi : i 0 = t) :
    val_main_v15 (F := Ideal) idx i = route idx t := by
  have h0 : val_main_v0 (F := Ideal) idx (idx_main_v15 i) = route idx t := (v0_apply idx _).trans (congrArg (route idx) hi)
  have hn : IntOp.cmpi .slt (route idx t) 0#32 = 0#1 :=
    eq_zero_of_ne_one fun h' => Nat.not_lt_zero _ ((StableHlo.Predicate.slt_iff_toNat (by omega) (by decide)).1 h')
  rw [val_main_v15_apply, val_main_v14_apply, val_main_v11_apply, val_main_v10_apply, val_main_c_2_apply, h0, hn, ValueIdx.select_zero]

/-- The dimension numbers of the gather of one matrix per token. -/
abbrev picks := gather_S128x256x512_S1024x1_S1024x256x512_12_0_n_n_0_1_1256512

/-- The gathered matrix of a token whose expert exists is that expert's. -/
theorem matrix_apply (t : Fin 1024) (h : (route idx t).toNat < 128) (k : Fin 256) (j : Fin 512) :
    val_main_v16 (F := Ideal) idx w (ix3 t k j) = w (ix3 (⟨(route idx t).toNat, h⟩ : Fin 128) k j) := by
  unfold val_main_v16 Host.gather
  refine congrArg w (funext fun a => Fin.ext ?_)
  have hb : ∀ a, picks.batchCoord (ix3 t k j) a = 0 := fun a =>
    GatherDims.batchCoord_eq_zero _ _ a List.not_mem_nil
  show picks.start (ix3 t k j) _ a
    + picks.batchCoord (ix3 t k j) a
    + picks.offCoord (ix3 t k j) a = _
  rw [hb a, Nat.add_zero]
  unfold GatherDims.start GatherDims.offCoord
  match a with
  | ⟨0, h0⟩ =>
    rw [dif_pos (show (⟨0, h0⟩ : Fin 3) ∈ picks.startIndexMap by decide +revert),
      dif_neg (show (⟨0, h0⟩ : Fin 3) ∉ picks.sKept by decide +revert),
      start_apply idx t h _ rfl, StableHlo.Predicate.toInt_eq_toNat_of_lt (by omega)]
    exact Nat.min_eq_left (Nat.le_of_lt_succ h)
  | ⟨1, h1⟩ =>
    rw [dif_neg (show (⟨1, h1⟩ : Fin 3) ∉ picks.startIndexMap by decide +revert),
      dif_pos (show (⟨1, h1⟩ : Fin 3) ∈ picks.sKept by decide +revert)]
    exact Nat.zero_add _
  | ⟨2, h2⟩ =>
    rw [dif_neg (show (⟨2, h2⟩ : Fin 3) ∉ picks.startIndexMap by decide +revert),
      dif_pos (show (⟨2, h2⟩ : Fin 3) ∈ picks.sKept by decide +revert)]
    exact Nat.zero_add _

/-- The dispatch mask over the result's columns. -/
theorem row_of (t : Fin 1024) (j : Fin 512) : idx_main_v18 (idx_main_call2_v1 (ix2 t j)) = ix1 t :=
  funext fun a => match a with
    | ⟨0, _⟩ => rfl

/-- The reference's result at token `t`, column `j`. -/
theorem value (t : Fin 1024) (j : Fin 512) :
    val_main_v19 (F := Ideal) x idx w (ix2 t j)
      = entry (route idx) (fun t k => x (ix2 t k)) (fun e k => w (ix3 e k j)) t := by
  rw [val_main_v19_apply, val_main_call2_v1_apply, val_main_v18_apply, val_main_call2_v2_apply, val_main_call2_v0_apply, val_main_cst_apply,
    row_of]
  have hk := keep_apply idx t
  unfold entry
  by_cases h : (route idx t).toNat < 128 ∧ rank (route idx) t ≤ 6
  · rw [dif_pos h, hk.2 h, ValueIdx.select_one, val_main_v17_apply]
    refine Finset.sum_congr rfl fun k _ => congrArg₂ (· * ·) (congrArg x ?_) ((congrArg _ ?_).trans (matrix_apply idx w t h.1 k j))
    · exact funext fun a => match a with
        | ⟨0, _⟩ => rfl
        | ⟨1, _⟩ => rfl
    · exact funext fun a => match a with
        | ⟨0, _⟩ => rfl
        | ⟨1, _⟩ => rfl
        | ⟨2, _⟩ => rfl
  · rw [dif_neg h, eq_zero_of_ne_one fun h' => h (hk.1 h'), ValueIdx.select_zero]
    exact Ideal.ofBits_zero_f32

end Cert.Dispatch.Ref
-- ==== Proof.Equation.lean ====
/-
The equation: device `c`'s block of the kernel's result is rows `32 c` to `32 c + 31` of the reference's result.
-/
module

public import proofs.«01_k».proof.Proof.Out
public import proofs.«01_k».proof.Proof.RefValue
public import proofs.«01_k».proof.Proof.Frames

@[expose] public section

noncomputable section

namespace Cert.Dispatch

open Cert.KernelIdeal Cert.KernelIdeal.Gen
open Idealize.ShloMosaic Idealize.ShloMosaic.TcCoe Idealize.SL.Sem
open Idealize.ShloMosaic.ValueIdx hiding ix1 ix2 ix3
open scoped BigOperators

/-! ## One device's partial product, in the whole arrays -/

/-- Device `c`'s block of the experts' matrices is its four of the 128. -/
theorem block_expert (c : Dev nD) (W : FVec Ideal (⟨3, ![128, 256, 512]⟩ : Shape) .f32) (q : Fin 32) (k : Fin 256) (j : Fin 512) :
    Layout.block ⟨3, ![4, 256, 512]⟩ ⟨3, ![128, 256, 512]⟩ 0 32 c W (by decide) (ix3 (⟨q.val / 8, by omega⟩ : Fin 4) k j)
      = W (ix3 (expert c q) k j) := by
  rw [Layout.block_apply]
  refine congrArg W (funext fun a => Fin.ext ?_)
  fin_cases a
  · show c.val * 4 + q.val / 8 = 4 * c.val + q.val / 8
    omega
  · rfl
  · rfl

section
variable (m : (ℓ : Loc nD τ sig) → Buf (Elt Ideal) ℓ)
variable (x : Vec Ideal S1024x256 .f32) (idx : Vec Ideal S1024x1 .i32) (W : FVec Ideal (⟨3, ![128, 256, 512]⟩ : Shape) .f32)

theorem partAt_share (d : Dev nD) (hx : m ((d : Thread nD τ).loc main_arg0) = x) (hi : m ((d : Thread nD τ).loc main_arg2) = idx)
    (hw : m ((d : Thread nD τ).loc main_arg3) = Layout.block ⟨3, ![4, 256, 512]⟩ ⟨3, ![128, 256, 512]⟩ 0 32 d W) (t : Fin 1024) (j : Fin 512) :
    partAt m d t j = share (route idx) (fun u k => x (ix2 u k)) (fun e k => W (ix3 e k j)) d t := by
  unfold partAt partV
  rw [xV_eq, iV_eq, wV_eq, hx, hi, hw]
  refine (partOf_apply d x idx _ t j).trans ?_
  unfold share
  refine Finset.sum_congr rfl fun q _ => congrArg _ (Finset.sum_congr rfl fun k _ => congrArg _ ?_)
  exact block_expert d W q k j

end

/-! ## The claim -/

theorem algebraic : Cert.algebraic_KernelIdeal_ReferenceIdeal := by
  intro m g m' g' _ hm
  refine ⟨Cert.ReferenceIdeal.Read.val_main_v19 (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨?_, kept m g r h.1 c⟩) (run_main (F := Ideal) m g)
    refine ((h.1 c).1 (3 : Fin 4)).trans ((finalA_out m g c).trans (funext fun (i : S32x512.Idx) => ?_))
    obtain ⟨a, b, rfl⟩ : ∃ (a : Fin 32) (b : Fin 512), i = ix2 a b := ⟨i 0, i 1, funext fun e => by fin_cases e <;> rfl⟩
    refine (outAt_eq m c a b).trans ?_
    refine (Finset.sum_congr rfl fun d _ => partAt_share m _ _ _ d (hm d).1 (hm d).2.2.1 (hm d).2.2.2 (ownRow c a) b).trans ?_
    refine (sum_share _ _ _ _).trans ?_
    refine (Ref.value _ _ _ (ownRow c a) b).symm.trans ?_
    rw [Layout.block_apply]
    refine congrArg _ (funext fun e => Fin.ext ?_)
    fin_cases e
    · show 32 * c.val + a.val = c.val * 32 + a.val
      omega
    · rfl
  · exact (θ_run Cert.ReferenceIdeal.defs _ _).mono
      (fun r h => ⟨(h 0).1.trans (Cert.ReferenceIdeal.Read.val_main_v19_eq _ _ _), (h 0).2⟩)
      (Cert.ReferenceIdeal.Value.run (F := Ideal) m' g')

end Cert.Dispatch
-- ==== Proof.lean ====
/-
The certificate's claims: the three frames, the idealization, and the equation between the kernel on 32 devices and the
reference on one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Frames
public import proofs.«01_k».proof.Proof.Equation

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Dispatch.frame_kernel, Cert.Dispatch.frame_kernelIdeal, Cert.Dispatch.frame_reference, trivial, Cert.Dispatch.algebraic⟩

end Cert.Proof

end
